-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 256]⟩ ⟨2, ![512, 4096]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1, 256]⟩ ⟨2, ![1, 4096]⟩ 1 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 256]⟩ ⟨2, ![512, 4096]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x256 : Shape := ⟨2, ![512, 256]⟩
abbrev S1x256 : Shape := ⟨2, ![1, 256]⟩
abbrev S8x128 : Shape := ⟨2, ![8, 128]⟩
abbrev S3x8x128 : Shape := ⟨3, ![3, 8, 128]⟩
abbrev S_ : Shape := ⟨0, ![]⟩
abbrev S3 : Shape := ⟨1, ![3]⟩
abbrev S512 : Shape := ⟨1, ![512]⟩
abbrev S512x1 : Shape := ⟨2, ![512, 1]⟩
abbrev S128x128 : Shape := ⟨2, ![128, 128]⟩
abbrev S128x1 : Shape := ⟨2, ![128, 1]⟩
abbrev S1x128 : Shape := ⟨2, ![1, 128]⟩
abbrev S4x128 : Shape := ⟨2, ![4, 128]⟩
abbrev S1 : Shape := ⟨1, ![1]⟩
abbrev S1x8x128 : Shape := ⟨3, ![1, 8, 128]⟩
abbrev S3x4x128 : Shape := ⟨3, ![3, 4, 128]⟩

abbrev nBuf : Space → Nat
  | .hbm => 3
  | .vmem => 7
  | .smem => 0
  | _ => 0

abbrev bufTy : (tb : Table) → Fin (tcTables nBuf tb) → BufTy
  | .hbm, ⟨0, _⟩ => ⟨S512x256, .f32⟩
  | .hbm, ⟨1, _⟩ => ⟨S1x256, .f32⟩
  | .hbm, ⟨2, _⟩ => ⟨S512x256, .f32⟩
  | .local _ .vmem, ⟨0, _⟩ => ⟨S512x256, .f32⟩
  | .local _ .vmem, ⟨1, _⟩ => ⟨S1x256, .f32⟩
  | .local _ .vmem, ⟨2, _⟩ => ⟨S512x256, .f32⟩
  | .local _ .vmem, ⟨3, _⟩ => ⟨S8x128, .f32⟩
  | .local _ .vmem, ⟨4, _⟩ => ⟨S8x128, .f32⟩
  | .local _ .vmem, ⟨5, _⟩ => ⟨S3x8x128, .f32⟩
  | .local _ .vmem, ⟨6, _⟩ => ⟨S3x8x128, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 2 → Bool
  | ⟨0, _⟩ => true
  | ⟨1, _⟩ => false
  | _ => false

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  (ofTc nBuf bufTy 2 15 bufScoped semScoped dmaSemScoped tileCredit tileCredit_eq_zero tileCredit_pos).withBarriers [(0, 1)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_sem0_0 : DmaSem sig := 0
abbrev cc0_sem1_0 : DmaSem sig := 1
abbrev cc0_sem2_0 : DmaSem sig := 2
abbrev barrier0 : Sem sig := 1

abbrev nD : Nat := 16
abbrev τ : Topo := Topo.v7x

variable {F : FTy → Type} [FloatOps F]

abbrev grid0 : Pipeline.Grid := .none

def k0_dev1 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_6 : BitVec 32 := 4#32
  let v22 : BitVec 32 := Scalar.muli v20 c4_i32_6
  let c4_i32 : BitVec 32 := 4#32
  let v3 : BitVec 32 := Scalar.remsi v2 c4_i32
  let c1_i32_7 : BitVec 32 := 1#32
  let v23 : BitVec 32 := Scalar.addi v3 c1_i32_7
  let c4_i32_8 : BitVec 32 := 4#32
  let v24 : BitVec 32 := Scalar.remsi v23 c4_i32_8
  let v25 : BitVec 32 := Scalar.addi v22 v24
  let c1_i32_10 : BitVec 32 := 1#32
  let v26 : BitVec 32 := Scalar.muli v25 c1_i32_10
  let v27 : BitVec 32 := Scalar.addi c0_i32_11 v26
  v27.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_12 : BitVec 32 := 1#32
  let v28 : BitVec 32 := Scalar.addi v20 c1_i32_12
  let c4_i32_13 : BitVec 32 := 4#32
  let v29 : BitVec 32 := Scalar.remsi v28 c4_i32_13
  let c4_i32_14 : BitVec 32 := 4#32
  let v30 : BitVec 32 := Scalar.muli v29 c4_i32_14
  let c4_i32 : BitVec 32 := 4#32
  let v3 : BitVec 32 := Scalar.remsi v2 c4_i32
  let v31 : BitVec 32 := Scalar.addi v30 v3
  let c1_i32_16 : BitVec 32 := 1#32
  let v32 : BitVec 32 := Scalar.muli v31 c1_i32_16
  let v33 : BitVec 32 := Scalar.addi c0_i32_17 v32
  v33.toNat
def k0_dev3 (d0 : Dev nD) : Nat :=
  let c0_i32_22 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_18 : BitVec 32 := 4#32
  let v34 : BitVec 32 := Scalar.muli v20 c4_i32_18
  let c4_i32 : BitVec 32 := 4#32
  let v3 : BitVec 32 := Scalar.remsi v2 c4_i32
  let c2_i32 : BitVec 32 := 2#32
  let v35 : BitVec 32 := Scalar.addi v3 c2_i32
  let c4_i32_19 : BitVec 32 := 4#32
  let v36 : BitVec 32 := Scalar.remsi v35 c4_i32_19
  let v37 : BitVec 32 := Scalar.addi v34 v36
  let c1_i32_21 : BitVec 32 := 1#32
  let v38 : BitVec 32 := Scalar.muli v37 c1_i32_21
  let v39 : BitVec 32 := Scalar.addi c0_i32_22 v38
  v39.toNat
def k0_dev4 (d0 : Dev nD) : Nat :=
  let c0_i32_28 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32_23 : BitVec 32 := 2#32
  let v40 : BitVec 32 := Scalar.addi v20 c2_i32_23
  let c4_i32_24 : BitVec 32 := 4#32
  let v41 : BitVec 32 := Scalar.remsi v40 c4_i32_24
  let c4_i32_25 : BitVec 32 := 4#32
  let v42 : BitVec 32 := Scalar.muli v41 c4_i32_25
  let c4_i32 : BitVec 32 := 4#32
  let v3 : BitVec 32 := Scalar.remsi v2 c4_i32
  let v43 : BitVec 32 := Scalar.addi v42 v3
  let c1_i32_27 : BitVec 32 := 1#32
  let v44 : BitVec 32 := Scalar.muli v43 c1_i32_27
  let v45 : BitVec 32 := Scalar.addi c0_i32_28 v44
  v45.toNat
def k0_dev5 (d0 : Dev nD) : Nat :=
  let c0_i32_33 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_29 : BitVec 32 := 4#32
  let v46 : BitVec 32 := Scalar.muli v20 c4_i32_29
  let c4_i32 : BitVec 32 := 4#32
  let v3 : BitVec 32 := Scalar.remsi v2 c4_i32
  let c3_i32 : BitVec 32 := 3#32
  let v47 : BitVec 32 := Scalar.addi v3 c3_i32
  let c4_i32_30 : BitVec 32 := 4#32
  let v48 : BitVec 32 := Scalar.remsi v47 c4_i32_30
  let v49 : BitVec 32 := Scalar.addi v46 v48
  let c1_i32_32 : BitVec 32 := 1#32
  let v50 : BitVec 32 := Scalar.muli v49 c1_i32_32
  let v51 : BitVec 32 := Scalar.addi c0_i32_33 v50
  v51.toNat
def k0_dev6 (d0 : Dev nD) : Nat :=
  let c0_i32_39 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32_34 : BitVec 32 := 3#32
  let v52 : BitVec 32 := Scalar.addi v20 c3_i32_34
  let c4_i32_35 : BitVec 32 := 4#32
  let v53 : BitVec 32 := Scalar.remsi v52 c4_i32_35
  let c4_i32_36 : BitVec 32 := 4#32
  let v54 : BitVec 32 := Scalar.muli v53 c4_i32_36
  let c4_i32 : BitVec 32 := 4#32
  let v3 : BitVec 32 := Scalar.remsi v2 c4_i32
  let v55 : BitVec 32 := Scalar.addi v54 v3
  let c1_i32_38 : BitVec 32 := 1#32
  let v56 : BitVec 32 := Scalar.muli v55 c1_i32_38
  let v57 : BitVec 32 := Scalar.addi c0_i32_39 v56
  v57.toNat
def k0_dev7 (d0 : Dev nD) : Nat :=
  let c0_i32_56 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_49 : BitVec 32 := 4#32
  let v83 : BitVec 32 := Scalar.muli v20 c4_i32_49
  let c4_i32 : BitVec 32 := 4#32
  let v3 : BitVec 32 := Scalar.remsi v2 c4_i32
  let c1_i32_50 : BitVec 32 := 1#32
  let v84 : BitVec 32 := Scalar.addi v3 c1_i32_50
  let c4_i32_51 : BitVec 32 := 4#32
  let v85 : BitVec 32 := Scalar.remsi v84 c4_i32_51
  let v86 : BitVec 32 := Scalar.addi v83 v85
  let c1_i32_55 : BitVec 32 := 1#32
  let v87 : BitVec 32 := Scalar.muli v86 c1_i32_55
  let v88 : BitVec 32 := Scalar.addi c0_i32_56 v87
  v88.toNat
def k0_dev8 (d0 : Dev nD) : Nat :=
  let c0_i32_66 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_59 : BitVec 32 := 4#32
  let v95 : BitVec 32 := Scalar.muli v20 c4_i32_59
  let c4_i32 : BitVec 32 := 4#32
  let v3 : BitVec 32 := Scalar.remsi v2 c4_i32
  let c2_i32_60 : BitVec 32 := 2#32
  let v96 : BitVec 32 := Scalar.addi v3 c2_i32_60
  let c4_i32_61 : BitVec 32 := 4#32
  let v97 : BitVec 32 := Scalar.remsi v96 c4_i32_61
  let v98 : BitVec 32 := Scalar.addi v95 v97
  let c1_i32_65 : BitVec 32 := 1#32
  let v99 : BitVec 32 := Scalar.muli v98 c1_i32_65
  let v100 : BitVec 32 := Scalar.addi c0_i32_66 v99
  v100.toNat
def k0_dev9 (d0 : Dev nD) : Nat :=
  let c0_i32_76 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c4_i32_69 : BitVec 32 := 4#32
  let v107 : BitVec 32 := Scalar.muli v20 c4_i32_69
  let c4_i32 : BitVec 32 := 4#32
  let v3 : BitVec 32 := Scalar.remsi v2 c4_i32
  let c3_i32_70 : BitVec 32 := 3#32
  let v108 : BitVec 32 := Scalar.addi v3 c3_i32_70
  let c4_i32_71 : BitVec 32 := 4#32
  let v109 : BitVec 32 := Scalar.remsi v108 c4_i32_71
  let v110 : BitVec 32 := Scalar.addi v107 v109
  let c1_i32_75 : BitVec 32 := 1#32
  let v111 : BitVec 32 := Scalar.muli v110 c1_i32_75
  let v112 : BitVec 32 := Scalar.addi c0_i32_76 v111
  v112.toNat
def k0_dev10 (d0 : Dev nD) : Nat :=
  let c0_i32_119 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_112 : BitVec 32 := 1#32
  let v150 : BitVec 32 := Scalar.addi v20 c1_i32_112
  let c4_i32_113 : BitVec 32 := 4#32
  let v151 : BitVec 32 := Scalar.remsi v150 c4_i32_113
  let c4_i32_114 : BitVec 32 := 4#32
  let v152 : BitVec 32 := Scalar.muli v151 c4_i32_114
  let c4_i32 : BitVec 32 := 4#32
  let v3 : BitVec 32 := Scalar.remsi v2 c4_i32
  let v153 : BitVec 32 := Scalar.addi v152 v3
  let c1_i32_118 : BitVec 32 := 1#32
  let v154 : BitVec 32 := Scalar.muli v153 c1_i32_118
  let v155 : BitVec 32 := Scalar.addi c0_i32_119 v154
  v155.toNat
def k0_dev11 (d0 : Dev nD) : Nat :=
  let c0_i32_129 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32_122 : BitVec 32 := 2#32
  let v162 : BitVec 32 := Scalar.addi v20 c2_i32_122
  let c4_i32_123 : BitVec 32 := 4#32
  let v163 : BitVec 32 := Scalar.remsi v162 c4_i32_123
  let c4_i32_124 : BitVec 32 := 4#32
  let v164 : BitVec 32 := Scalar.muli v163 c4_i32_124
  let c4_i32 : BitVec 32 := 4#32
  let v3 : BitVec 32 := Scalar.remsi v2 c4_i32
  let v165 : BitVec 32 := Scalar.addi v164 v3
  let c1_i32_128 : BitVec 32 := 1#32
  let v166 : BitVec 32 := Scalar.muli v165 c1_i32_128
  let v167 : BitVec 32 := Scalar.addi c0_i32_129 v166
  v167.toNat
def k0_dev12 (d0 : Dev nD) : Nat :=
  let c0_i32_139 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32_132 : BitVec 32 := 3#32
  let v174 : BitVec 32 := Scalar.addi v20 c3_i32_132
  let c4_i32_133 : BitVec 32 := 4#32
  let v175 : BitVec 32 := Scalar.remsi v174 c4_i32_133
  let c4_i32_134 : BitVec 32 := 4#32
  let v176 : BitVec 32 := Scalar.muli v175 c4_i32_134
  let c4_i32 : BitVec 32 := 4#32
  let v3 : BitVec 32 := Scalar.remsi v2 c4_i32
  let v177 : BitVec 32 := Scalar.addi v176 v3
  let c1_i32_138 : BitVec 32 := 1#32
  let v178 : BitVec 32 := Scalar.muli v177 c1_i32_138
  let v179 : BitVec 32 := Scalar.addi c0_i32_139 v178
  v179.toNat
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S512x4096 : Shape := ⟨2, ![512, 4096]⟩
abbrev S1x4096 : Shape := ⟨2, ![1, 4096]⟩
abbrev S_ : Shape := ⟨0, ![]⟩
abbrev S512 : Shape := ⟨1, ![512]⟩
abbrev S512x1 : Shape := ⟨2, ![512, 1]⟩

abbrev nBuf : Space → Nat
  | .hbm => 17
  | .vmem => 0
  | .smem => 0
  | _ => 0

abbrev bufTy : (tb : Table) → Fin (tcTables nBuf tb) → BufTy
  | .hbm, ⟨0, _⟩ => ⟨S512x4096, .f32⟩
  | .hbm, ⟨1, _⟩ => ⟨S1x4096, .f32⟩
  | .hbm, ⟨2, _⟩ => ⟨S512x4096, .f32⟩
  | .hbm, ⟨3, _⟩ => ⟨S_, .f32⟩
  | .hbm, ⟨4, _⟩ => ⟨S512, .f32⟩
  | .hbm, ⟨5, _⟩ => ⟨S512x1, .f32⟩
  | .hbm, ⟨6, _⟩ => ⟨S_, .f32⟩
  | .hbm, ⟨7, _⟩ => ⟨S512x1, .f32⟩
  | .hbm, ⟨8, _⟩ => ⟨S512x1, .f32⟩
  | .hbm, ⟨9, _⟩ => ⟨S_, .f32⟩
  | .hbm, ⟨10, _⟩ => ⟨S512x1, .f32⟩
  | .hbm, ⟨11, _⟩ => ⟨S512x1, .f32⟩
  | .hbm, ⟨12, _⟩ => ⟨S512x1, .f32⟩
  | .hbm, ⟨13, _⟩ => ⟨S512x4096, .f32⟩
  | .hbm, ⟨14, _⟩ => ⟨S512x4096, .f32⟩
  | .hbm, ⟨15, _⟩ => ⟨S512x4096, .f32⟩
  | .hbm, ⟨16, _⟩ => ⟨S512x4096, .f32⟩
  | _, _ => ⟨S512x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== Proof.Mesh.lean ====
/-
# The mesh, the cells and the buffers of the distributed RMS norm

The sixteen devices form a 4 × 4 mesh: device `c` sits in plane `c / 4` at place `c % 4`. The kernel runs two
exchanges, each between a device and three others. In the first (phase `false`) the three are its plane mates; in
the second (phase `true`) they are the devices at its place in the other planes. Both phases have one shape, so
everything here takes the phase as an argument.

A device has seven semaphore cells per phase: one that counts "my receive buffer is free" signals, three that count
its own sends and three that count arrivals.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.NormProof

open Cert.KernelIdeal Cert.KernelIdeal.Gen
open Idealize.ShloMosaic
open Idealize.ShloMosaic.TcCoe

/-! ## Who talks to whom -/

/-- The device `i + 1` steps after `c`: within the plane in phase `false`, across the planes in phase `true`. -/
def peer (ph : Bool) (i : Fin 3) (c : Dev nD) : Dev nD :=
  match ph with
  | false => ⟨4 * (c.val / 4) + (c.val % 4 + i.val + 1) % 4, by have h : c.val < 16 := c.isLt; show _ < 16; omega⟩
  | true => ⟨4 * ((c.val / 4 + i.val + 1) % 4) + c.val % 4, by have h : c.val < 16 := c.isLt; show _ < 16; omega⟩

/-- Going `i + 1` steps and then `3 - i` steps closes the circle of four. -/
theorem peer_rev (ph : Bool) (i : Fin 3) (c : Dev nD) : peer ph i.rev (peer ph i c) = c := by
  revert ph i c; decide +kernel

theorem peer_rev' (ph : Bool) (i : Fin 3) (c : Dev nD) : peer ph i (peer ph i.rev c) = c := by
  have h := peer_rev ph i.rev c; rwa [Fin.rev_rev] at h

/-- The step as a permutation of the devices. -/
def step (ph : Bool) (i : Fin 3) : Dev nD ≃ Dev nD := ⟨peer ph i, peer ph i.rev, peer_rev ph i, peer_rev' ph i⟩

theorem step_apply (ph : Bool) (i : Fin 3) (c : Dev nD) : step ph i c = peer ph i c := rfl

theorem dev1_eq (c : Dev nD) : (⟨k0_dev1 c, k0_dev1_lt c⟩ : Dev nD) = peer false 0 c := by revert c; decide +kernel
theorem dev2_eq (c : Dev nD) : (⟨k0_dev2 c, k0_dev2_lt c⟩ : Dev nD) = peer true 0 c := by revert c; decide +kernel
theorem dev3_eq (c : Dev nD) : (⟨k0_dev3 c, k0_dev3_lt c⟩ : Dev nD) = peer false 1 c := by revert c; decide +kernel
theorem dev4_eq (c : Dev nD) : (⟨k0_dev4 c, k0_dev4_lt c⟩ : Dev nD) = peer true 1 c := by revert c; decide +kernel
theorem dev5_eq (c : Dev nD) : (⟨k0_dev5 c, k0_dev5_lt c⟩ : Dev nD) = peer false 2 c := by revert c; decide +kernel
theorem dev6_eq (c : Dev nD) : (⟨k0_dev6 c, k0_dev6_lt c⟩ : Dev nD) = peer true 2 c := by revert c; decide +kernel
theorem dev7_eq (c : Dev nD) : (⟨k0_dev7 c, k0_dev7_lt c⟩ : Dev nD) = peer false 0 c := by revert c; decide +kernel
theorem dev8_eq (c : Dev nD) : (⟨k0_dev8 c, k0_dev8_lt c⟩ : Dev nD) = peer false 1 c := by revert c; decide +kernel
theorem dev9_eq (c : Dev nD) : (⟨k0_dev9 c, k0_dev9_lt c⟩ : Dev nD) = peer false 2 c := by revert c; decide +kernel
theorem dev10_eq (c : Dev nD) : (⟨k0_dev10 c, k0_dev10_lt c⟩ : Dev nD) = peer true 0 c := by revert c; decide +kernel
theorem dev11_eq (c : Dev nD) : (⟨k0_dev11 c, k0_dev11_lt c⟩ : Dev nD) = peer true 1 c := by revert c; decide +kernel
theorem dev12_eq (c : Dev nD) : (⟨k0_dev12 c, k0_dev12_lt c⟩ : Dev nD) = peer true 2 c := by revert c; decide +kernel

/-! ## The cells -/

/-- The semaphores of one device that the exchanges use: per phase the ready count (`inl`), and per direction
    (`false` a send, `true` an arrival) three transfer counts. -/
abbrev CIx : Type := Bool ⊕ (Bool × Bool × Fin 3)

/-- The semaphore an index names. -/
def csem : CIx → SemLoc sig
  | .inl false => .reg (sig.barrier 0 rfl)
  | .inl true => .reg (cc0_scratch4 : Sems sig S_).sem
  | .inr (false, false, i) => .dma (⟨3 + i.val, by show _ < 15; omega⟩ : Fin 15)
  | .inr (false, true, i) => .dma (⟨6 + i.val, by show _ < 15; omega⟩ : Fin 15)
  | .inr (true, false, i) => .dma (⟨9 + i.val, by show _ < 15; omega⟩ : Fin 15)
  | .inr (true, true, i) => .dma (⟨12 + i.val, by show _ < 15; omega⟩ : Fin 15)

/-- The index of a semaphore; the pipeline's own three have none. -/
def cixOf : SemLoc sig → Option CIx
  | .reg s => if s = sig.barrier 0 rfl then some (.inl false) else some (.inl true)
  | .dma q =>
    if q.val < 3 then none
    else some (.inr (decide (9 ≤ q.val), decide ((q.val / 3) % 2 = 0), ⟨q.val % 3, Nat.mod_lt _ (by decide)⟩))

theorem cixOf_csem (k : CIx) : cixOf (csem k) = some k := by revert k; decide +kernel

theorem csem_inj {k k' : CIx} (h : csem k = csem k') : k = k' :=
  Option.some.inj (by rw [← cixOf_csem k, ← cixOf_csem k', h])

/-- The cell `k` of device `c`. -/
abbrev cell (c : Dev nD) (k : CIx) : GSem nD τ sig := ((c : Thread nD τ), csem k)

theorem cell_inj {c c' : Dev nD} {k k' : CIx} (h : cell c k = cell c' k') : c = c' ∧ k = k' :=
  ⟨congrArg (fun g : GSem nD τ sig => g.1.1) h, csem_inj (congrArg (fun g : GSem nD τ sig => g.2) h)⟩

/-! ## The buffers -/

/-- The tile a device sends in a phase. -/
def srcM : Bool → Memref sig .tc .vmem S8x128 .f32
  | false => Memref.whole cc0_scratch0
  | true => Memref.whole cc0_scratch1

/-- The three landing tiles of a phase, one array. -/
def commM : Bool → Memref sig .tc .vmem S3x8x128 .f32
  | false => Memref.whole cc0_scratch2
  | true => Memref.whole cc0_scratch3

theorem slot_inb (j : Fin 3) : ∀ a, (![j.val, 0, 0] : Fin 3 → Nat) a + S1x8x128.size a ≤ S3x8x128.size a := by
  revert j; decide

/-- The rectangle of landing tile `j`. -/
abbrev slotR (j : Fin 3) : Rect S3x8x128 := Rect.unit (s := S3x8x128) ![j.val, 0, 0] S1x8x128.size (slot_inb j)

/-- Landing tile `j` of a phase. -/
def slotM (ph : Bool) (j : Fin 3) : Memref sig .tc .vmem S8x128 .f32 :=
  ((commM ph).slice (slotR j) (fun _ => rfl)).squeeze S8x128 squeezes_S1x8x128_S8x128

/-- What one tile counts on a transfer cell. -/
def N : ℕ := (Memref.whole cc0_scratch0 : Memref sig .tc .vmem S8x128 .f32).view.dmaCredit

theorem N_pos : 0 < N := View.dmaCredit_pos _ (by decide)

theorem credit_src (ph : Bool) : (srcM ph).view.dmaCredit = N := by cases ph <;> rfl
theorem credit_slot (ph : Bool) (j : Fin 3) : (slotM ph j).view.dmaCredit = N := by
  cases ph <;> rfl

/-- What a cell counts in all: three signals, or one tile. -/
def need : CIx → ℕ
  | .inl _ => 3
  | .inr _ => N

end Cert.NormProof
-- ==== Proof.Schedule.lean ====
/-
# Who pays each cell, and what is handed over

Every cell counts one round. A ready cell of `c` hears the three peers of its phase once each; the peer that sends to
landing tile `j` is told by that signal that the tile is free, so the signal hands the tile over. A transfer cell
counts one tile: an arrival hands over the landing tile holding what the peer sent, a completed send gives the part of
the sent tile back. What each device sends in a phase is a parameter (`val`), so the protocol is proved apart from
what is computed.
-/
module

public import proofs.«01_k».proof.Proof.Mesh

@[expose] public section

noncomputable section

namespace Cert.NormProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UU : Type := UR sig nD τ × URounds (GSem nD τ sig) (Fin 3)

local notation "𝕄" => MT nD τ sig Unit (Elt F) ℕ UU ℕ

abbrev EP : Emb (UR sig nD τ) (MT nD τ sig Unit (Elt F) ℕ UU ℕ) := embL
abbrev ER : Emb (URounds (GSem nD τ sig) (Fin 3)) (MT nD τ sig Unit (Elt F) ℕ UU ℕ) := embR

/-- What a tile holds. -/
abbrev Tile (F : FTy → Type) : Type := S8x128.Idx → Elt F .f32

/-- The part of the sent tile that send `i` borrows. -/
def shr : Fin 3 → PosShare TreeShare
  | 0 => fullShare.left
  | 1 => fullShare.right.left
  | 2 => fullShare.right.right

/-- Device `c` owns the memref `M`, at a share, with the tile `X` in it. -/
abbrev tileAt (c : Dev nD) (M : Memref sig .tc .vmem S8x128 .f32) (q : PosShare TreeShare) (X : Tile F) : sProp 𝕄 :=
  owns (c : Thread nD τ) M q X

variable (val : Bool → Dev nD → Tile F)

/-- What a signal or a tile hands to the owner of the cell it lands on. -/
def handed (c : Dev nD) (k : CIx) (d : Fin 3) : sProp 𝕄 :=
  match k with
  | .inl ph => iprop(∃ X : Tile F, tileAt (peer ph d.rev c) (slotM ph d) fullShare X)
  | .inr (ph, false, i) => tileAt c (srcM ph) (shr i) (val ph c)
  | .inr (ph, true, j) => tileAt c (slotM ph j) fullShare (val ph (peer ph j c))

/-- Who lands on a cell. -/
def payers : CIx → Finset (Fin 3)
  | .inl _ => Finset.univ
  | .inr _ => {0}

/-- How much each landing counts. -/
def each : CIx → ℕ
  | .inl _ => 1
  | .inr _ => N

instance handed_storable (c : Dev nD) (k : CIx) (d : Fin 3) : BI.Storable (upEmb : UEmb _ 𝕄) (handed val c k d) := by
  rcases k with ph | ⟨ph, dir, i⟩
  · unfold handed tileAt owns; infer_instance
  · cases dir <;> (unfold handed tileAt owns; infer_instance)

/-- The schedule of all cells. -/
def rd : Rounds.Schedule (GSem nD τ sig) (Fin 3) 𝕄 where
  duties g r := if r = 0 ∧ g.1.2 = .tc then (match cixOf g.2 with | some k => payers k | none => ∅) else ∅
  unitless _ := False
  amount g _ _ := match cixOf g.2 with | some k => each k | none => 1
  payload g _ d := match cixOf g.2 with | some k => handed val g.1.1 k d | none => iprop(emp)
  amount_pos g _ _ _ := by
    cases h : cixOf g.2 with
    | none => exact Nat.one_pos
    | some k => cases k with
      | inl _ => exact Nat.one_pos
      | inr _ => exact N_pos

instance rd_payload_storable (g : GSem nD τ sig) (r : ℕ) (d : Fin 3) : BI.Storable (upEmb : UEmb _ 𝕄) ((rd (F := F) val).payload g r d) := by
  show BI.Storable upEmb (match cixOf g.2 with | some k => handed val g.1.1 k d | none => iprop(emp))
  cases cixOf g.2 <;> infer_instance

omit [FloatOps F] in
theorem duties_cell (c : Dev nD) (k : CIx) : (rd (F := F) val).duties (cell c k) 0 = payers k := by
  dsimp only [rd]; rw [if_pos ⟨rfl, rfl⟩, cixOf_csem]

omit [FloatOps F] in
theorem duties_later (g : GSem nD τ sig) : ∀ r, 1 ≤ r → (rd (F := F) val).duties g r = ∅ :=
  fun r hr => by dsimp only [rd]; exact if_neg fun h => by omega

omit [FloatOps F] in
theorem amount_cell (c : Dev nD) (k : CIx) (r : ℕ) (d : Fin 3) : (rd (F := F) val).amount (cell c k) r d = each k := by
  dsimp only [rd]; rw [cixOf_csem]

omit [FloatOps F] in
theorem payload_cell (c : Dev nD) (k : CIx) (r : ℕ) (d : Fin 3) : (rd (F := F) val).payload (cell c k) r d = handed val c k d := by
  dsimp only [rd]; rw [cixOf_csem]

omit [FloatOps F] in
theorem expect_cell (c : Dev nD) (k : CIx) : (rd (F := F) val).expect (cell c k) 0 = need k := by
  unfold Schedule.expect Schedule.amountOf
  rw [duties_cell, Finset.sum_congr rfl fun d _ => amount_cell val c k 0 d]
  cases k with
  | inl _ => rfl
  | inr _ => exact Finset.sum_singleton _ _

/-- Everything a cell's round hands over. -/
def landed (c : Dev nD) (k : CIx) : sProp 𝕄 := bigSep (payers k) fun d => handed val c k d

omit [FloatOps F] in
theorem rest_cell (c : Dev nD) (k : CIx) :
    bigSep ((rd (F := F) val).duties (cell c k) 0 \ ∅) (fun d => (rd (F := F) val).payload (cell c k) 0 d) = landed val c k := by
  rw [Finset.sdiff_empty, duties_cell]; unfold landed
  exact congrArg _ (funext fun d => payload_cell val c k 0 d)

omit [FloatOps F] in
theorem landed_inr (c : Dev nD) (x : Bool × Bool × Fin 3) : landed val c (.inr x) = handed val c (.inr x) 0 := by
  unfold landed; exact bigSep_singleton

omit [FloatOps F] in
theorem landed_inl (c : Dev nD) (ph : Bool) :
    landed val c (.inl ph) = iprop(handed val c (.inl ph) 0 ∗ handed val c (.inl ph) 1 ∗ handed val c (.inl ph) 2) := by
  unfold landed; exact bigSep_univ_eq_bigSepL [0, 1, 2] (by decide) (by decide) _

/-! ## What each device owes at launch

A device owes six signals and six tiles to its peers. The list below is in the order of the program; its entries name
the phase, the peer and the cell, and do not depend on the device. -/

/-- One landing a device owes a peer. -/
structure Due where
  ph : Bool
  i : Fin 3
  k : CIx
  n : ℕ

/-- The cell a due of `c` is owed to. -/
def Due.at (e : Due) (c : Dev nD) : GSem nD τ sig := cell (peer e.ph e.i c) e.k

/-- The signal to peer `i`. -/
def sig1 (ph : Bool) (i : Fin 3) : Due := ⟨ph, i, .inl ph, 1⟩
/-- The tile to peer `i`: it lands in the tile the peer keeps for this device. -/
def tile1 (ph : Bool) (i : Fin 3) : Due := ⟨ph, i, .inr (ph, true, i.rev), N⟩

/-- The six signals. -/
def sigDues : List Due := [sig1 false 0, sig1 true 0, sig1 false 1, sig1 true 1, sig1 false 2, sig1 true 2]
/-- The three tiles of a phase. -/
def tileDues (ph : Bool) : List Due := [tile1 ph 0, tile1 ph 1, tile1 ph 2]
/-- All dues in program order. -/
def dues : List Due := sigDues ++ (tileDues false ++ tileDues true)

/-- The tally of a list of dues of `c`. -/
def tally (c : Dev nD) : List Due → CellTallies nD τ sig Unit
  | [] => 0
  | e :: l => tally c l + tallyAt (e.at c) () e.n

theorem tally_pos {c : Dev nD} {g : GSem nD τ sig} {u : Unit} : ∀ {l : List Due}, 0 < tally c l g u → ∃ e ∈ l, g = e.at c
  | [], h => absurd h (Nat.lt_irrefl 0)
  | e :: l, h => by
    unfold tally at h
    rw [Pi.add_apply, Finsupp.add_apply, tallyAt_apply] at h
    by_cases he : g = e.at c ∧ u = ()
    · exact ⟨e, List.mem_cons_self, he.1⟩
    · rw [if_neg he, add_zero] at h
      obtain ⟨e', hm, hg⟩ := tally_pos h
      exact ⟨e', List.mem_cons_of_mem _ hm, hg⟩

/-- A wait is below everything still owed: ready cells of phase `false`, its arrivals, then the same of phase `true`. -/
def rank : CIx → ℕ
  | .inl false => 1
  | .inr (false, true, _) => 2
  | .inl true => 3
  | .inr (true, true, _) => 4
  | .inr (_, false, _) => 0

def L (g : GSem nD τ sig) : Finset Unit := if g.1.2 = .tc then {()} else ∅
def lv (g : GSem nD τ sig) (_ : Unit) : ℕ := match cixOf g.2 with | some k => rank k | none => 0

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (k : CIx) : lv (cell c k) () = rank k := by unfold lv; rw [cixOf_csem]

omit [FloatOps F] in
/-- A wait on a semaphore whose level is below all dues left is allowed. -/
theorem mayWait_of (c : Dev nD) (sm : SemLoc sig) (l : List Due) (h : ∀ e ∈ l, lv ((c : Thread nD τ), sm) () < rank e.k) :
    (levAts L lv : sProp 𝕄) ⊢ MayWait (c : Thread nD τ) sm () (tally c l) :=
  MayOwe.of_cut (L := L) (lev := lv) (lv ((c : Thread nD τ), sm) ())
    (fun p hp => by rw [Finset.mem_singleton.mp hp, L_tc]; exact Finset.mem_singleton_self _)
    (fun g u hg => by
      obtain ⟨e, -, rfl⟩ := tally_pos hg
      exact (L_tc _ _) ▸ Finset.mem_singleton_self _)
    (fun p hp => by rw [Finset.mem_singleton.mp hp])
    (fun g u hg => by
      obtain ⟨e, hm, rfl⟩ := tally_pos hg
      exact (lv_cell _ _).symm ▸ h e hm)

omit [FloatOps F] in
theorem mayWait_cell (c : Dev nD) (k : CIx) (l : List Due) (h : ∀ e ∈ l, rank k < rank e.k) :
    (levAts L lv : sProp 𝕄) ⊢ MayWait (c : Thread nD τ) (csem k) () (tally c l) :=
  mayWait_of c (csem k) l fun e he => (lv_cell c k).symm ▸ h e he

/-- What a device owes at launch. -/
def O₀ (c : Dev nD) : CellTallies nD τ sig Unit := tally c dues

/-- What the peers together owe the cell `k` of a device. -/
def owedTo (k : CIx) : ℕ := (dues.map fun e => if e.k = k then e.n else 0).sum

theorem tally_apply (d c : Dev nD) (k : CIx) : ∀ l : List Due,
    tally d l (cell c k) () = (l.map fun e => if e.k = k then (if peer e.ph e.i d = c then e.n else 0) else 0).sum
  | [] => rfl
  | e :: l => by
    unfold tally
    rw [Pi.add_apply, Finsupp.add_apply, tallyAt_apply, tally_apply d c k l, List.map_cons, List.sum_cons, add_comm]
    congr 1
    by_cases hk : e.k = k
    · rw [if_pos hk]
      by_cases hp : peer e.ph e.i d = c
      · rw [if_pos hp, if_pos ⟨by unfold Due.at; rw [hp, hk], rfl⟩]
      · rw [if_neg hp, if_neg fun h => hp (cell_inj h.1).1.symm]
    · rw [if_neg hk, if_neg fun h => hk (cell_inj h.1).2.symm]

theorem sum_tally (c : Dev nD) (k : CIx) : ∀ l : List Due,
    ∑ d : Dev nD, tally d l (cell c k) () = (l.map fun e => if e.k = k then e.n else 0).sum := by
  intro l
  rw [Finset.sum_congr rfl fun d _ => tally_apply d c k l]
  induction l with
  | nil => exact Finset.sum_const_zero
  | cons e l ih =>
    simp only [List.map_cons, List.sum_cons]
    rw [Finset.sum_add_distrib, ih, Nat.add_right_cancel_iff]
    by_cases hk : e.k = k
    · simp only [if_pos hk]
      exact (Fintype.sum_equiv (step e.ph e.i) _ (fun x : Dev nD => if x = c then e.n else 0) fun d => rfl).trans
        (by rw [Finset.sum_ite_eq', if_pos (Finset.mem_univ c)])
    · simp only [if_neg hk]; exact Finset.sum_const_zero

/-- The peers together owe each ready cell three signals and each arrival cell one tile. -/
theorem owedTo_ready (ph : Bool) : owedTo (.inl ph) = need (.inl ph) := by
  cases ph <;> simp [owedTo, dues, sigDues, tileDues, sig1, tile1, need]

theorem owedTo_recv (ph : Bool) (j : Fin 3) : owedTo (.inr (ph, true, j)) = need (.inr (ph, true, j)) := by
  cases ph <;> fin_cases j <;> simp [owedTo, dues, sigDues, tileDues, sig1, tile1, need, Fin.rev]

end Cert.NormProof
-- ==== Proof.Rules.lean ====
/-
# The exchange steps: a signal, a wait, a send

Each rule is stated for a phase and a peer index, over the records of all cells, so that the body's proof names no
cell by hand.
-/
module

public import proofs.«01_k».proof.Proof.Schedule

@[expose] public section

noncomputable section

namespace Cert.NormProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

variable (val : Bool → Dev nD → Tile F) (K : Dev nD × CIx → ℕ)

omit [FloatOps F] in
theorem handed_inl (c : Dev nD) (ph : Bool) (i : Fin 3) :
    handed val c (.inl ph) i = iprop(∃ X : Tile F, tileAt (peer ph i.rev c) (slotM ph i) fullShare X) := rfl

/-- Every cell of every device is under the schedule and open. -/
def records : sProp 𝕄 :=
  bigSep Finset.univ fun p : Dev nD × CIx =>
    iprop(cellInv ER (rd val) (K p) (cell p.1 p.2) ∗ reached ER (cell p.1 p.2) 0)

instance records_persistent : BI.Persistent (records val K) := by unfold records; infer_instance

omit [FloatOps F] in
theorem record_at (c : Dev nD) (k : CIx) :
    records val K ⊢ iprop(cellInv ER (rd val) (K (c, k)) (cell c k) ∗ reached ER (cell c k) 0) := by
  unfold records; rw [bigSep_univ_at _ (c, k)]; exact sep_elim_left

/-- What device `c` still owes, whatever it has waited for. -/
def due (c : Dev nD) (l : List Due) : sProp 𝕄 := iprop(∃ W, owes (c : Thread nD τ) (tally c l) W)

/-- The program after a step, under the body's frame. -/
abbrev run {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-- Device `c` tells peer `i` that landing tile `i` is free, and hands the tile over. -/
theorem wp_notify (c n : Dev nD) (ph : Bool) (i : Fin 3) (l : List Due) {sem : Sem sig} {k' : ℕ}
    (hn : n = peer ph i c) (hs : SemLoc.reg sem = csem (.inl ph)) (hk : k' = 1)
    {α : Type} {Q : α → sProp 𝕄} {k : PUnit → Prog (TpuEff nD τ sig (Elt F) Λ₀ .tc) α} :
    iprop(records val K ∗ due c (sig1 ph i :: l) ∗ dutyTok ER (cell (peer ph i c) (.inl ph)) 0 i
        ∗ ∃ X : Tile F, tileAt c (slotM ph i) fullShare X)
      ⊢ iprop((due c l -∗ run c (k ⟨⟩) Q) -∗ run c (.op (.semSignal (Dev.tc n : Thread nD τ) sem k') k) Q) := by
  have e : ((Dev.tc n : Thread nD τ), SemLoc.reg sem) = cell (peer ph i c) (.inl ph) := by rw [hn, hs]
  subst hk
  unfold due
  iintro ⟨#HR, ⟨%W, HO⟩, Ht, Htile⟩ Hk
  ihave #Hrec := (record_at val K (peer ph i c) (.inl ph)) $$ HR
  icases Hrec with ⟨#Hinv, #Hre⟩
  iapply (Rounds.wp_signal 𝒱₀ ER (rd val) (c : Thread nD τ) none (dst := (Dev.tc n : Thread nD τ)) (sem := sem) (r := 0) (d := i)
      (κ := K (peer ph i c, .inl ph)) (by rw [e, duties_cell]; exact Finset.mem_univ _)
      ((congrArg (fun g => (rd (F := F) val).amount g 0 i) e).trans (amount_cell val _ _ 0 i)) () (tally c l)
      (by rw [e]) (W := W)) $$ [HO Ht Htile]
  · rw [e, payload_cell]
    isplitr; · iexact Hinv
    isplitl [HO]; · iexact HO
    isplitl [Ht]; · iexact Ht
    isplitl [Htile]
    · rw [handed_inl, peer_rev]; iexact Htile
    iexact Hre
  iintro HO
  iapply Hk
  iexists W; iexact HO

/-- A wait for all a cell counts: the round's payloads come with it. -/
theorem wp_await (c : Dev nD) (k : CIx) (l : List Due) {w : TpuEff nD τ sig (Elt F) Λ₀ .tc PUnit} {sm : SemLoc sig} {k' : ℕ}
    (hw : ∀ P : PUnit → sProp 𝕄, wpE (defs₀ (F := F)) 𝒱₀ (c : Thread nD τ) none Set.univ w P = waitSpec (c : Thread nD τ) Set.univ sm k' P)
    (hs : sm = csem k) (hk : k' = need k) (hl : ∀ e ∈ l, rank k < rank e.k)
    {α : Type} {Q : α → sProp 𝕄} {p : PUnit → Prog (TpuEff nD τ sig (Elt F) Λ₀ .tc) α} :
    iprop(records val K ∗ levAts L lv ∗ due c l ∗ cred (tallyAt (cell c k) () (need k)) ∗ atPos ER (cell c k) 0 ∅ 0)
      ⊢ iprop(((due c l ∗ atPos ER (cell c k) (0 + 1) ∅ 0 ∗ landed val c k) -∗ run c (p ⟨⟩) Q) -∗ run c (.op w p) Q) := by
  subst hs hk
  unfold due
  iintro ⟨#HR, #Hlev, ⟨%W, HO⟩, Hc, Hat⟩ Hk
  ihave #Hrec := (record_at val K c k) $$ HR
  icases Hrec with ⟨#Hinv, #Hre⟩
  iapply (Rounds.wp_wait_rest_token 𝒱₀ ER (rd val) (c : Thread nD τ) none (κ := K (c, k)) hw (Set.mem_univ _) ()
      (O := tally c l) (W := W) (R := 0) (m := 0) (T := ∅) (by rw [Nat.zero_add, expect_cell])) $$ [Hc HO Hat]
  · isplitr; · iexact Hinv
    isplitl [Hc]; · iexact Hc
    isplitl [HO]; · iexact HO
    isplitr; · iapply (mayWait_cell c k l hl); iexact Hlev
    iexact Hat
  iintro ⟨HO, Hat, -, Hpay⟩
  ihave Hp := (Entails.of_eq (rest_cell val c k)) $$ Hpay
  iapply Hk
  isplitl [HO]
  · iexists _; iexact HO
  isplitl [Hat]; · iexact Hat
  iexact Hp

/-- Device `c` sends its tile to peer `i`, which freed the landing tile. -/
theorem wp_send_tile (c n : Dev nD) (ph : Bool) (i : Fin 3) (l : List Due)
    {src : Memref sig .tc .vmem S8x128 .f32} {dst : Memref sig (Dev.tc n : Thread nD τ).2.kind .vmem S8x128 .f32} {sS sR : SemLoc sig}
    (hn : n = peer ph i c) (hsrc' : src = srcM ph) (hdst' : dst = slotM ph i.rev)
    (hS : sS = csem (.inr (ph, false, i))) (hR : sR = csem (.inr (ph, true, i.rev)))
    {hsc : dst.view.ref.isScScratch = false} {hsrc : src.view.WordExact} {hdst : dst.view.WordExact}
    {hsem : DmaTarget.Typed .vmem sR (.remote (Dev.tc n : Thread nD τ) dst sS hsc)}
    {α : Type} {Q : α → sProp 𝕄} {k : PUnit → Prog (TpuEff nD τ sig (Elt F) Λ₀ .tc) α} :
    iprop(records val K ∗ due c (tile1 ph i :: l) ∗ tileAt c (srcM ph) (shr i) (val ph c)
        ∗ (∃ X : Tile F, tileAt (peer ph i c) (slotM ph i.rev) fullShare X)
        ∗ dutyTok ER (cell c (.inr (ph, false, i))) 0 0 ∗ dutyTok ER (cell (peer ph i c) (.inr (ph, true, i.rev))) 0 0)
      ⊢ iprop(((due c l ∗ cred (tallyAt (cell c (.inr (ph, false, i))) () (need (.inr (ph, false, i))))) -∗ run c (k ⟨⟩) Q)
          -∗ run c (.op (.enqueueDma src (.remote (Dev.tc n : Thread nD τ) dst sS hsc) sR hsrc hdst hsem) k) Q) := by
  subst hn hsrc' hdst' hS hR
  unfold due
  iintro ⟨#HR, ⟨%W, HO⟩, Hsrc, ⟨%X, Hdst⟩, HtS, HtR⟩ Hk
  ihave #Hrec := (record_at val K c (.inr (ph, false, i))) $$ HR
  icases Hrec with ⟨#HinvS, #HreS⟩
  ihave #Hrec' := (record_at val K (peer ph i c) (.inr (ph, true, i.rev))) $$ HR
  icases Hrec' with ⟨#HinvR, #HreR⟩
  unfold tileAt owns
  icases Hsrc with ⟨%fs, %hfs, Hsrc⟩
  icases Hdst with ⟨%fd, %hfd, Hdst⟩
  iapply (Rounds.wp_send_pointsTo 𝒱₀ ER (rd val) (c : Thread nD τ) none (c' := (Dev.tc (peer ph i c) : Thread nD τ))
      (κ₁ := K (c, .inr (ph, false, i))) (κ₂ := K (peer ph i c, .inr (ph, true, i.rev))) (r₁ := 0) (r₂ := 0) (d₁ := 0) (d₂ := 0)
      (fs := fs) (fd := fd)
      (by rw [duties_cell]; exact Finset.mem_singleton_self _) (by rw [duties_cell]; exact Finset.mem_singleton_self _)
      () () N (by cases ph <;> fin_cases i <;> rfl)
      (amount_cell val c (.inr (ph, false, i)) 0 0) (amount_cell val (peer ph i c) (.inr (ph, true, i.rev)) 0 0)
      (tally c l) rfl (W := W)
      (by rw [payload_cell]; unfold handed tileAt owns
          iintro H; iexists fs; isplitr; · ipureintro; exact hfs
          iexact H)
      (by rw [payload_cell]; unfold handed tileAt owns
          iintro H; iexists _; isplitr
          swap; · iexact H
          ipureintro; rw [View.read_write_univ, hfs, peer_rev])) $$ [HO Hsrc Hdst HtS HtR]
  · isplitr; · iexact HinvS
    isplitr; · iexact HinvR
    isplitl [Hsrc]; · iexact Hsrc
    isplitl [Hdst]; · iexact Hdst
    isplitl [HO]; · iexact HO
    isplitl [HtS]; · iexact HtS
    isplitr; · iexact HreS
    isplitl [HtR]; · iexact HtR
    iexact HreR
  iintro ⟨Hc, HO⟩
  iapply Hk
  isplitl [HO]
  · iexists W; iexact HO
  iexact Hc

end Cert.NormProof
-- ==== Proof.Tiles.lean ====
/-
# Tiles: the landing array in three, the sent tile in three shares, loads and stores

The landing array of a phase is its three landing tiles; it is taken apart before the signals and put together after
the arrivals. The sent tile is lent to three sends at once, a third of it each, and comes back whole. A tile's rows
0-3 and rows 4-7 are stored the same four rows.
-/
module

public import proofs.«01_k».proof.Proof.Rules
public import Idealize.ShloMosaic.Lib.ValueLayout

@[expose] public section

noncomputable section

namespace Cert.NormProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ UU ℕ

/-! ## Loads and stores of an owned memref -/

/-- A load of an owned memref reads its contents at the loaded places. -/
theorem wp_load_of (c : Dev nD) {cs : CoreSpace} {s : Shape} {e : EltTy} (M : Memref sig .tc cs s e) (q : PosShare TreeShare)
    (X : s.Idx → Elt F e) {r : LoadRect s} {hl : M.view.LoadsAt r} {α : Type} {Q : α → sProp 𝕄}
    {k : (r.shape.Idx → Elt F e) → Prog (TpuEff nD τ sig (Elt F) Λ₀ .tc) α} :
    (owns (c : Thread nD τ) M q X : sProp 𝕄)
      ⊢ iprop((owns (c : Thread nD τ) M q X -∗ run c (k fun x => X (r.idx x)) Q) -∗ run c (.op (.load M r hl) k) Q) := by
  unfold owns
  iintro ⟨%f, %hf, H⟩ Hk
  subst hf
  iapply (wp_load 𝒱₀ (c : Thread nD τ) none Set.univ (m := M) (View.setOn_subset_set _ _)) $$ H
  iintro H
  iapply Hk
  iexists f; isplitr; · ipureintro; rfl
  iexact H

/-- The same, at what the loaded places are known to hold. -/
theorem wp_load_as (c : Dev nD) {cs : CoreSpace} {s : Shape} {e : EltTy} (M : Memref sig .tc cs s e) (q : PosShare TreeShare)
    (X : s.Idx → Elt F e) {r : LoadRect s} (Y : r.shape.Idx → Elt F e) (hY : (fun x => X (r.idx x)) = Y) {hl : M.view.LoadsAt r}
    {α : Type} {Q : α → sProp 𝕄} {k : (r.shape.Idx → Elt F e) → Prog (TpuEff nD τ sig (Elt F) Λ₀ .tc) α} :
    (owns (c : Thread nD τ) M q X : sProp 𝕄)
      ⊢ iprop((owns (c : Thread nD τ) M q X -∗ run c (k Y) Q) -∗ run c (.op (.load M r hl) k) Q) := by
  subst hY; exact wp_load_of c M q X

/-- A store into an owned memref; `Y` is what it holds afterwards. -/
theorem wp_store_of (c : Dev nD) {cs : CoreSpace} {s : Shape} {e : EltTy} (M : Memref sig .tc cs s e) (X Y : s.Idx → Elt F e)
    {r : Rect s} {w : r.shape.Idx → Elt F e} {hx : (M.access r).Stores Finset.univ}
    {hm : (Finset.univ : Finset r.shape.Idx) = Finset.univ ∨ ∀ a, r.stride a = 1}
    {α : Type} {Q : α → sProp 𝕄} {k : PUnit → Prog (TpuEff nD τ sig (Elt F) Λ₀ .tc) α}
    (hin : ∀ j, Y (r.emb j) = w j) (hout : ∀ y, y ∉ Finset.univ.map r.emb → Y y = X y) :
    (owns (c : Thread nD τ) M fullShare X : sProp 𝕄)
      ⊢ iprop((owns (c : Thread nD τ) M fullShare Y -∗ run c (k ⟨⟩) Q)
          -∗ run c (.op (.store M r w Finset.univ hx hm) k) Q) := by
  unfold owns
  iintro ⟨%f, %hf, H⟩ Hk
  subst hf
  iapply (wp_store 𝒱₀ (c : Thread nD τ) none Set.univ (m := M) (r := r) (Mk := Finset.univ) (S := M.view.set)
    (View.set_slice_subset (v := M.view) r)) $$ H
  iintro H
  iapply Hk
  iexists _; isplitr
  swap; · iexact H
  ipureintro
  funext y
  by_cases hy : y ∈ Finset.univ.map r.emb
  · obtain ⟨j, -, rfl⟩ := Finset.mem_map.mp hy
    rw [hin]; exact View.read_slice_write_emb r f w (Finset.mem_univ j)
  · rw [hout y hy]; exact View.read_slice_write_of_not_mem r f w Finset.univ hy

/-! ## Rows 0-3 and rows 4-7 -/

/-- The same four rows twice. -/
def twice (p : S4x128.Idx → Elt F .f32) : Tile F := fun y =>
  p (ix2 (⟨(y 0).val % 4, Nat.mod_lt _ (by decide)⟩ : Fin 4) (⟨(y 1).val, (y 1).isLt⟩ : Fin 128))

/-- Rows 0-3 replaced. -/
def upper (p : S4x128.Idx → Elt F .f32) (X : Tile F) : Tile F := fun y => if (y 0).val < 4 then twice p y else X y

abbrev upperR : Rect S8x128 := Rect.unit (s := S8x128) ![0, 0] S4x128.size inb_S8x128_S4x128_0_0
abbrev lowerR : Rect S8x128 := Rect.unit (s := S8x128) ![4, 0] S4x128.size inb_S8x128_S4x128_4_0

omit [FloatOps F] in
theorem upper_in (p : S4x128.Idx → Elt F .f32) (X : Tile F) (j : upperR.shape.Idx) : upper p X (upperR.emb j) = p j := by
  have h0 : (j 0).val < 4 := (j 0).isLt
  have e0 : (upperR.emb j 0).val = (j 0).val := by rw [Rect.emb_apply]; show 0 + 1 * (j 0).val = _; omega
  have e1 : (upperR.emb j 1).val = (j 1).val := by rw [Rect.emb_apply]; show 0 + 1 * (j 1).val = _; omega
  unfold upper; rw [if_pos (by omega)]; unfold twice
  refine congrArg p (funext fun a => Fin.ext ?_)
  match a with
  | ⟨0, _⟩ => show (upperR.emb j 0).val % 4 = (j 0).val; omega
  | ⟨1, _⟩ => exact e1

omit [FloatOps F] in
theorem upper_out (p : S4x128.Idx → Elt F .f32) (X : Tile F) (y : S8x128.Idx) (h : y ∉ Finset.univ.map upperR.emb) :
    upper p X y = X y := by
  unfold upper; rw [if_neg]
  intro hy
  refine h (Finset.mem_map.mpr ⟨ix2 (⟨(y 0).val, hy⟩ : Fin 4) (⟨(y 1).val, (y 1).isLt⟩ : Fin 128), Finset.mem_univ _, ?_⟩)
  funext a; refine Fin.ext ?_; rw [Rect.emb_apply]
  match a with
  | ⟨0, _⟩ => show 0 + 1 * (y 0).val = (y 0).val; omega
  | ⟨1, _⟩ => show 0 + 1 * (y 1).val = (y 1).val; omega

omit [FloatOps F] in
theorem lower_in (p : S4x128.Idx → Elt F .f32) (j : lowerR.shape.Idx) : twice p (lowerR.emb j) = p j := by
  have h0 : (j 0).val < 4 := (j 0).isLt
  have e0 : (lowerR.emb j 0).val = 4 + (j 0).val := by rw [Rect.emb_apply]; show 4 + 1 * (j 0).val = _; omega
  have e1 : (lowerR.emb j 1).val = (j 1).val := by rw [Rect.emb_apply]; show 0 + 1 * (j 1).val = _; omega
  unfold twice
  refine congrArg p (funext fun a => Fin.ext ?_)
  match a with
  | ⟨0, _⟩ => show (lowerR.emb j 0).val % 4 = (j 0).val; omega
  | ⟨1, _⟩ => exact e1

omit [FloatOps F] in
theorem lower_out (p : S4x128.Idx → Elt F .f32) (X : Tile F) (y : S8x128.Idx) (h : y ∉ Finset.univ.map lowerR.emb) :
    twice p y = upper p X y := by
  unfold upper
  by_cases hy : (y 0).val < 4
  · rw [if_pos hy]
  · exfalso
    have h8 : (y 0).val < 8 := (y 0).isLt
    refine h (Finset.mem_map.mpr ⟨ix2 (⟨(y 0).val - 4, by omega⟩ : Fin 4) (⟨(y 1).val, (y 1).isLt⟩ : Fin 128), Finset.mem_univ _, ?_⟩)
    funext a; refine Fin.ext ?_; rw [Rect.emb_apply]
    match a with
    | ⟨0, _⟩ => show 4 + 1 * ((y 0).val - 4) = (y 0).val; omega
    | ⟨1, _⟩ => show 0 + 1 * (y 1).val = (y 1).val; omega

/-! ## The sent tile in three shares -/

omit [FloatOps F] in
/-- Contents that read the same through a view are the same on its elements. -/
theorem agree_of_read {sp : Space} {s : Shape} {e : EltTy} (v : View sig .tc sp s e) {f g : v.ty.Contents (Elt F)}
    (h : v.read (Elt F) f = v.read (Elt F) g) : ∀ i ∈ v.set, f i = g i := by
  intro i hi
  obtain ⟨x, -, rfl⟩ := Finset.mem_map.mp hi
  have hx := congrFun h x
  rw [View.read_apply, View.read_apply] at hx
  exact (cast_inj _).mp hx

omit [FloatOps F] in
/-- The whole tile is lent in three parts. -/
theorem lend (c : Dev nD) (M : Memref sig .tc .vmem S8x128 .f32) (X : Tile F) :
    (tileAt c M fullShare X : sProp 𝕄) ⊢ iprop(tileAt c M (shr 0) X ∗ tileAt c M (shr 1) X ∗ tileAt c M (shr 2) X) := by
  unfold tileAt owns shr
  iintro ⟨%f, %hf, H⟩
  ihave H' := (pointsTo_share (PosShare.mem_left_op_right fullShare)).1 $$ H
  icases H' with ⟨H0, H12⟩
  ihave H'' := (pointsTo_share (PosShare.mem_left_op_right fullShare.right)).1 $$ H12
  icases H'' with ⟨H1, H2⟩
  isplitl [H0]
  · iexists f; isplitr; · ipureintro; exact hf
    iexact H0
  isplitl [H1]
  · iexists f; isplitr; · ipureintro; exact hf
    iexact H1
  iexists f; isplitr; · ipureintro; exact hf
  iexact H2

omit [FloatOps F] in
/-- The three parts make the whole tile again. -/
theorem unlend (c : Dev nD) (M : Memref sig .tc .vmem S8x128 .f32) (X : Tile F) :
    iprop(tileAt c M (shr 0) X ∗ tileAt c M (shr 1) X ∗ tileAt c M (shr 2) X) ⊢ (tileAt c M fullShare X : sProp 𝕄) := by
  unfold tileAt owns shr
  iintro ⟨⟨%f, %hf, H0⟩, ⟨%g, %hg, H1⟩, %h, %hh, H2⟩
  ihave H1' := (Entails.of_eq (pointsTo_congr (agree_of_read M.view (hg.trans hf.symm)))) $$ H1
  ihave H2' := (Entails.of_eq (pointsTo_congr (agree_of_read M.view (hh.trans hf.symm)))) $$ H2
  iexists f; isplitr; · ipureintro; exact hf
  iapply (pointsTo_share (PosShare.mem_left_op_right fullShare)).2
  isplitl [H0]; · iexact H0
  iapply (pointsTo_share (PosShare.mem_left_op_right fullShare.right)).2
  isplitl [H1'] <;> iassumption

/-! ## The landing array in three tiles -/

/-- The place in the landing array of the place `y` of tile `j`. -/
def place (j : Fin 3) (y : S8x128.Idx) : S3x8x128.Idx :=
  ix3 j (⟨(y 0).val, (y 0).isLt⟩ : Fin 8) (⟨(y 1).val, (y 1).isLt⟩ : Fin 128)

theorem slot_emb (ph : Bool) (j : Fin 3) (y : S8x128.Idx) : (slotM ph j).view.emb y = (commM ph).view.emb (place j y) := by
  show (commM ph).view.emb ((slotR j).emb (Shape.reshapeEquiv squeezes_S1x8x128_S8x128.numel_eq y)) = _
  refine congrArg _ ?_
  have e : Shape.reshapeEquiv squeezes_S1x8x128_S8x128.numel_eq y = Fin.cons ⟨0, Nat.one_pos⟩ y :=
    Shape.reshapeEquiv_cons_one (d := S8x128.size) _ y
  rw [e]
  funext a; refine Fin.ext ?_; rw [Rect.emb_apply]
  match a with
  | ⟨0, _⟩ => show j.val + 1 * 0 = j.val; omega
  | ⟨1, _⟩ => show 0 + 1 * (y 0).val = (y 0).val; omega
  | ⟨2, _⟩ => show 0 + 1 * (y 1).val = (y 1).val; omega

theorem place_surj (i : S3x8x128.Idx) :
    place (⟨(i 0).val, (i 0).isLt⟩ : Fin 3) (ix2 (⟨(i 1).val, (i 1).isLt⟩ : Fin 8) (⟨(i 2).val, (i 2).isLt⟩ : Fin 128)) = i := by
  funext a
  match a with
  | ⟨0, _⟩ => rfl
  | ⟨1, _⟩ => rfl
  | ⟨2, _⟩ => rfl

omit [FloatOps F] in
/-- Tile `j` reads the landing array at its places. -/
theorem slot_read (ph : Bool) (j : Fin 3) (f : (commM ph).view.ty.Contents (Elt F)) (y : S8x128.Idx) :
    (slotM ph j).view.read (Elt F) f y = (commM ph).view.read (Elt F) f (place j y) := by
  show _root_.cast _ (f ((slotM ph j).view.emb y)) = _root_.cast _ (f ((commM ph).view.emb (place j y)))
  rw [slot_emb]

/-- The elements of tile `j`. -/
abbrev slotSet (ph : Bool) (j : Fin 3) : Finset (commM ph).view.ty.Idx := (slotM ph j).view.set

theorem slots_disjoint (ph : Bool) : ∀ j ∈ (Finset.univ : Finset (Fin 3)), ∀ j' ∈ (Finset.univ : Finset (Fin 3)), j ≠ j' →
    Disjoint (slotSet ph j) (slotSet ph j') := by
  intro j _ j' _ hne
  rw [Finset.disjoint_left]
  intro i hi hi'
  obtain ⟨x, -, hx⟩ := Finset.mem_map.mp hi
  obtain ⟨x', -, hx'⟩ := Finset.mem_map.mp hi'
  have e := (commM ph).view.emb.injective ((slot_emb ph j x).symm.trans (hx.trans (hx'.symm.trans (slot_emb ph j' x'))))
  exact hne (congrFun e 0)

theorem slots_cover (ph : Bool) : (commM ph).view.set = Finset.univ.biUnion (slotSet ph) := by
  ext i
  rw [Finset.mem_biUnion]
  constructor
  · intro hi
    obtain ⟨z, -, rfl⟩ := Finset.mem_map.mp hi
    refine ⟨⟨(z 0).val, (z 0).isLt⟩, Finset.mem_univ _, Finset.mem_map.mpr
      ⟨ix2 (⟨(z 1).val, (z 1).isLt⟩ : Fin 8) (⟨(z 2).val, (z 2).isLt⟩ : Fin 128), Finset.mem_univ _, ?_⟩⟩
    exact (slot_emb ph _ _).trans (congrArg _ (place_surj z))
  · rintro ⟨j, -, hj⟩
    obtain ⟨x, -, rfl⟩ := Finset.mem_map.mp hj
    exact (slot_emb ph j x) ▸ View.emb_mem_set _ _

/-- What the landing array holds when tile `j` holds `X j`. -/
def stacked (X : Fin 3 → Tile F) : S3x8x128.Idx → Elt F .f32 := fun i =>
  X ⟨(i 0).val, (i 0).isLt⟩ (ix2 (⟨(i 1).val, (i 1).isLt⟩ : Fin 8) (⟨(i 2).val, (i 2).isLt⟩ : Fin 128))

omit [FloatOps F] in
theorem three_eq (Φ : Fin 3 → sProp 𝕄) : bigSep Finset.univ Φ = iprop(Φ 0 ∗ Φ 1 ∗ Φ 2) :=
  bigSep_univ_eq_bigSepL [0, 1, 2] (by decide) (by decide) Φ

omit [FloatOps F] in
/-- The landing array taken apart. -/
theorem apart (c : Dev nD) (ph : Bool) (Y : S3x8x128.Idx → Elt F .f32) :
    (owns (c : Thread nD τ) (commM ph) fullShare Y : sProp 𝕄)
      ⊢ bigSep Finset.univ fun j : Fin 3 => iprop(∃ X : Tile F, tileAt c (slotM ph j) fullShare X) := by
  unfold owns
  iintro ⟨%f, %hf, H⟩
  rw [three_eq]
  have e : ((commM ph).view.loc (c : Thread nD τ) ↦[(commM ph).view.set]{fullShare} f : sProp 𝕄)
      = bigSep Finset.univ fun j : Fin 3 => ((commM ph).view.loc (c : Thread nD τ) ↦[slotSet ph j]{fullShare} f) := by
    rw [slots_cover]; exact pointsTo_biUnion (ℓ := (commM ph).view.loc (c : Thread nD τ)) _ _ (slots_disjoint ph)
  ihave H' := (Entails.of_eq (e.trans (three_eq _))) $$ H
  icases H' with ⟨H0, H1, H2⟩
  unfold tileAt owns
  isplitl [H0]
  · iexists _; iexists f; isplitr; · ipureintro; rfl
    iexact H0
  isplitl [H1]
  · iexists _; iexists f; isplitr; · ipureintro; rfl
    iexact H1
  iexists _; iexists f; isplitr; · ipureintro; rfl
  iexact H2

omit [FloatOps F] in
/-- The landing array put together. -/
theorem together (c : Dev nD) (ph : Bool) (X : Fin 3 → Tile F) :
    (bigSep Finset.univ fun j : Fin 3 => tileAt c (slotM ph j) fullShare (X j) : sProp 𝕄)
      ⊢ owns (c : Thread nD τ) (commM ph) fullShare (stacked X) := by
  rw [three_eq]
  unfold tileAt owns
  iintro ⟨⟨%f0, %h0, H0⟩, ⟨%f1, %h1, H1⟩, %f2, %h2, H2⟩
  have hf : ∀ j, (slotM ph j).view.read (Elt F) ((![f0, f1, f2] : Fin 3 → Buf (Elt F) ((commM ph).view.loc (c : Thread nD τ))) j) = X j := by
    intro j; fin_cases j
    · exact h0
    · exact h1
    · exact h2
  ihave H := (pointsTo_biUnion_join (ℓ := (commM ph).view.loc (c : Thread nD τ)) (q := fullShare) Finset.univ (slotSet ph)
    (![f0, f1, f2] : Fin 3 → Buf (Elt F) ((commM ph).view.loc (c : Thread nD τ))) f0 (slots_disjoint ph)) $$ [H0 H1 H2]
  · rw [three_eq]
    isplitl [H0]; · iexact H0
    isplitl [H1]; · iexact H1
    iexact H2
  icases H with ⟨%g, %hg, H⟩
  iexists g; isplitr
  swap; · rw [slots_cover]; iexact H
  ipureintro
  funext i
  have hi := (slot_read ph ⟨(i 0).val, (i 0).isLt⟩ g
    (ix2 (⟨(i 1).val, (i 1).isLt⟩ : Fin 8) (⟨(i 2).val, (i 2).isLt⟩ : Fin 128))).symm
  rw [place_surj] at hi
  rw [hi]
  unfold stacked
  rw [← hf]
  have hr : ∀ j, (slotM ph j).view.read (Elt F) g
      = (slotM ph j).view.read (Elt F) ((![f0, f1, f2] : Fin 3 → Buf (Elt F) ((commM ph).view.loc (c : Thread nD τ))) j) :=
    fun j => View.read_congr (v := (slotM ph j).view) (fun x hx => hg j (Finset.mem_univ j) x hx)
  exact congrFun (hr _) _

end Cert.NormProof
-- ==== Proof.Contents.lean ====
/-
# What each device computes

A device squares and sums the rows of its 512 × 256 block (512 partial sums, held as four rows of 128), sends them to
its plane mates, adds the three it hears, sends that plane sum to the other planes, adds the three it hears again, and
scales its block by the reciprocal root of the mean. The contents below are the program's own expressions, at any
float values.
-/
module

public import proofs.«01_k».proof.Proof.Tiles
public import proofs.«01_k».proof.Proof.Gen.KernelIdeal.Points

@[expose] public section

noncomputable section

namespace Cert.NormProof

open Cert.KernelIdeal Cert.KernelIdeal.Gen
open Idealize.ShloMosaic
open Idealize.ShloMosaic.TcCoe

variable {F : FTy → Type} [FloatOps F]

/-- Storing a value's four rows is storing the value. -/
theorem pay5_eq (a : FVec F S512x1 .f32) (b : IVec S128x128 32) : k0_pay5 a b = k0_pay4 a b := shapeCast_self _ _
theorem pay6_eq (a : FVec F S512x1 .f32) (b : IVec S128x128 32) : k0_pay6 a b = k0_pay4 a b := shapeCast_self _ _
theorem pay9_eq (a : FVec F S4x128 .f32) (b : Vec F S3x4x128 .f32) : k0_pay9 a b = k0_pay8 a b := shapeCast_self _ _
theorem pay10_eq (a : FVec F S4x128 .f32) (b : Vec F S3x4x128 .f32) : k0_pay10 a b = k0_pay8 a b := shapeCast_self _ _

theorem two_zeros : (![0, 0] : Fin 2 → Nat) = fun _ => 0 := funext fun a => by fin_cases a <;> rfl

variable (m : (ℓ : Loc nD τ sig) → Buf (Elt F) ℓ)

/-- Device `c`'s block of `x`, and its part of `gamma`. -/
def xIn (c : Dev nD) : Vec F S512x256 .f32 := m ((c : Thread nD τ).loc main_arg0)
def gIn (c : Dev nD) : Vec F S1x256 .f32 := m ((c : Thread nD τ).loc main_arg1)

/-- What the pipeline brings into the kernel is the argument itself. -/
theorem fetched_x (c : Dev nD) : (win0_0.blk t0_0).view.read (Elt F) (m ((c : Thread nD τ).loc main_arg0)) = xIn m c :=
  Memref.read_access_unit_zero (Elt F) main_arg0 (funext fun a => Nat.zero_mul _) _ _
theorem fetched_g (c : Dev nD) : (win0_1.blk t0_0).view.read (Elt F) (m ((c : Thread nD τ).loc main_arg1)) = gIn m c :=
  Memref.read_access_unit_zero (Elt F) main_arg1 (funext fun a => Nat.zero_mul _) _ _

/-- Row numbers of a 128 × 128 square. -/
def rowNo : IVec S128x128 32 := iota .tc S128x128 32 [0] iota_S128x128_d0_w32

/-- The 512 partial sums of the device's rows, as four rows of 128. -/
def packed (c : Dev nD) : FVec F S4x128 .f32 := k0_pay4 (k0_pay2 (xIn m c)) rowNo

/-- Rows 0-3 of three landing tiles. -/
def gather (X : Fin 3 → Tile F) : Vec F S3x4x128 .f32 :=
  fun x => stacked X ((Rect.unit (s := S3x8x128) ![0, 0, 0] S3x4x128.size inb_S3x8x128_S3x4x128_0_0_0).toLoadRect.idx x)

/-- What the plane mates of `c` sent. -/
def heard0 (c : Dev nD) : Vec F S3x4x128 .f32 := gather fun j => twice (packed m (peer false j c))

/-- The plane's sums. -/
def plane (c : Dev nD) : FVec F S4x128 .f32 := k0_pay8 (packed m c) (heard0 m c)

/-- What the other planes sent to `c`. -/
def heard1 (c : Dev nD) : Vec F S3x4x128 .f32 := gather fun j => twice (plane m (peer true j c))

/-- The tile a device sends in a phase. -/
def val : Bool → Dev nD → Tile F
  | false, c => twice (packed m c)
  | true, c => twice (plane m c)

/-- The reciprocal roots of the means of the 512 rows. -/
def scale (c : Dev nD) : FVec F S4x128 .f32 := k0_pay11 (plane m c) (heard1 m c)

/-- The device's block of the result. -/
def outAt (c : Dev nD) : FVec F S512x256 .f32 :=
  k0_pay14 (k0_pay3 rowNo) (k0_pay7 (k0_pay1 (xIn m c)) (gIn m c)) (scale m c)
    (k0_pay12 (k0_pay3 rowNo) (plane m c) (heard1 m c)) (k0_pay13 (plane m c) (heard1 m c))

end Cert.NormProof
-- ==== Proof.Body.lean ====
/-
# The kernel's body at a device

One proof for every device: six signals, the plane's exchange, the exchange between planes, and the product stored.
-/
module

public import proofs.«01_k».proof.Proof.Contents
public import Idealize.ShloMosaic.Lib.Rounds.Family

@[expose] public section

noncomputable section

namespace Cert.NormProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × CIx → ℕ)

/-- A whole buffer of device `c` with contents. -/
abbrev has (c : Dev nD) {s : Shape} {e : EltTy} (M : Memref sig .tc .vmem s e) (X : s.Idx → Elt F e) : sProp 𝕄 :=
  owns (c : Thread nD τ) M fullShare X

/-- The three tokens a device pays its ready signals of a phase with, and the six of its sends. -/
def readyToks (ph : Bool) (c : Dev nD) : sProp 𝕄 :=
  bigSep Finset.univ fun i : Fin 3 => dutyTok ER (cell (peer ph i c) (.inl ph)) 0 i
def sendToks (ph : Bool) (c : Dev nD) : sProp 𝕄 :=
  bigSep Finset.univ fun i : Fin 3 => iprop(dutyTok ER (cell c (.inr (ph, false, i))) 0 0 ∗ dutyTok ER (cell (peer ph i c) (.inr (ph, true, i.rev))) 0 0)

/-- The positions of a phase's cells, at round `r`. -/
def seats (ph : Bool) (c : Dev nD) (r : ℕ) : sProp 𝕄 :=
  iprop(atPos ER (cell c (.inl ph)) r ∅ 0 ∗ (bigSep Finset.univ fun i : Fin 3 => atPos ER (cell c (.inr (ph, false, i))) r ∅ 0)
    ∗ bigSep Finset.univ fun j : Fin 3 => atPos ER (cell c (.inr (ph, true, j))) r ∅ 0)

/-- What a device may count on of its peers in a phase. -/
def creds (ph : Bool) (c : Dev nD) : sProp 𝕄 :=
  iprop(cred (tallyAt (cell c (.inl ph)) () (need (.inl ph)))
    ∗ bigSep Finset.univ fun j : Fin 3 => cred (tallyAt (cell c (.inr (ph, true, j))) () (need (.inr (ph, true, j)))))

/-- What a device brings into a phase. -/
def kit (ph : Bool) (c : Dev nD) : sProp 𝕄 := iprop(readyToks ph c ∗ sendToks ph c ∗ seats ph c 0 ∗ creds ph c)

/-- The body on the staging and scratch buffers. -/
abbrev theBody : Prog (TpuEff nD τ sig (Elt F) Λ₀ .tc) PUnit :=
  cc0_body (Memref.whole cc0_stg0_0) (Memref.isWhole_whole _) (Memref.whole cc0_stg1_0) (Memref.isWhole_whole _)
    (Memref.whole cc0_stg2_0) (Memref.isWhole_whole _) (Memref.whole cc0_scratch0) (Memref.isWhole_whole _)
    (Memref.whole cc0_scratch1) (Memref.isWhole_whole _) (Memref.whole cc0_scratch2) (Memref.isWhole_whole _)
    (Memref.whole cc0_scratch3) (Memref.isWhole_whole _) cc0_scratch4 cc0_scratch5 cc0_scratch6 cc0_scratch7 cc0_scratch8

/-- What the body is given. -/
def pre (c : Dev nD) : sProp 𝕄 :=
  iprop(records (val m) K ∗ levAts L lv ∗ due c dues ∗ kit false c ∗ kit true c
    ∗ has c (Memref.whole cc0_stg0_0) (xIn m c) ∗ has c (Memref.whole cc0_stg1_0) (gIn m c)
    ∗ (∃ X, has c (Memref.whole cc0_stg2_0) X)
    ∗ (∃ X, has c (Memref.whole cc0_scratch0) X) ∗ (∃ X, has c (Memref.whole cc0_scratch1) X)
    ∗ (∃ X, has c (Memref.whole cc0_scratch2) X) ∗ (∃ X, has c (Memref.whole cc0_scratch3) X))

/-- What it leaves: every cell one round on, the buffers, the result. -/
def post (c : Dev nD) : sProp 𝕄 :=
  iprop(due c [] ∗ seats false c 1 ∗ seats true c 1
    ∗ has c (Memref.whole cc0_stg0_0) (xIn m c) ∗ has c (Memref.whole cc0_stg1_0) (gIn m c)
    ∗ has c (Memref.whole cc0_stg2_0) (outAt m c)
    ∗ (∃ X, has c (Memref.whole cc0_scratch0) X) ∗ (∃ X, has c (Memref.whole cc0_scratch1) X)
    ∗ (∃ X, has c (Memref.whole cc0_scratch2) X) ∗ (∃ X, has c (Memref.whole cc0_scratch3) X))

/-! ## What each wait brings -/

omit [FloatOps F] in
theorem landed_ready (v : Bool → Dev nD → Tile F) (c : Dev nD) (ph : Bool) :
    landed v c (.inl ph) = iprop((∃ X : Tile F, tileAt (peer ph 2 c) (slotM ph 0) fullShare X)
      ∗ (∃ X : Tile F, tileAt (peer ph 1 c) (slotM ph 1) fullShare X) ∗ ∃ X : Tile F, tileAt (peer ph 0 c) (slotM ph 2) fullShare X) :=
  landed_inl v c ph

omit [FloatOps F] in
theorem landed_send (v : Bool → Dev nD → Tile F) (c : Dev nD) (ph : Bool) (i : Fin 3) :
    landed v c (.inr (ph, false, i)) = tileAt c (srcM ph) (shr i) (v ph c) := landed_inr v c _

omit [FloatOps F] in
theorem landed_tile (v : Bool → Dev nD → Tile F) (c : Dev nD) (ph : Bool) (j : Fin 3) :
    landed v c (.inr (ph, true, j)) = tileAt c (slotM ph j) fullShare (v ph (peer ph j c)) := landed_inr v c _

/-! ## The semaphores the program names -/

theorem sem_5_0 : SemLoc.dma ((SemArray.slice cc0_scratch5 (Rect.unit (s := S3) ![0] S1.size inb_S3_S1_0)).squeeze S_ squeezes_S1_S_).sem
    = csem (.inr (false, false, 0)) := rfl
theorem sem_5_1 : SemLoc.dma ((SemArray.slice cc0_scratch5 (Rect.unit (s := S3) ![1] S1.size inb_S3_S1_1)).squeeze S_ squeezes_S1_S_).sem
    = csem (.inr (false, false, 1)) := rfl
theorem sem_5_2 : SemLoc.dma ((SemArray.slice cc0_scratch5 (Rect.unit (s := S3) ![2] S1.size inb_S3_S1_2)).squeeze S_ squeezes_S1_S_).sem
    = csem (.inr (false, false, 2)) := rfl
theorem sem_6_0 : SemLoc.dma ((SemArray.slice cc0_scratch6 (Rect.unit (s := S3) ![0] S1.size inb_S3_S1_0)).squeeze S_ squeezes_S1_S_).sem
    = csem (.inr (false, true, 0)) := rfl
theorem sem_6_1 : SemLoc.dma ((SemArray.slice cc0_scratch6 (Rect.unit (s := S3) ![1] S1.size inb_S3_S1_1)).squeeze S_ squeezes_S1_S_).sem
    = csem (.inr (false, true, 1)) := rfl
theorem sem_6_2 : SemLoc.dma ((SemArray.slice cc0_scratch6 (Rect.unit (s := S3) ![2] S1.size inb_S3_S1_2)).squeeze S_ squeezes_S1_S_).sem
    = csem (.inr (false, true, 2)) := rfl
theorem sem_7_0 : SemLoc.dma ((SemArray.slice cc0_scratch7 (Rect.unit (s := S3) ![0] S1.size inb_S3_S1_0)).squeeze S_ squeezes_S1_S_).sem
    = csem (.inr (true, false, 0)) := rfl
theorem sem_7_1 : SemLoc.dma ((SemArray.slice cc0_scratch7 (Rect.unit (s := S3) ![1] S1.size inb_S3_S1_1)).squeeze S_ squeezes_S1_S_).sem
    = csem (.inr (true, false, 1)) := rfl
theorem sem_7_2 : SemLoc.dma ((SemArray.slice cc0_scratch7 (Rect.unit (s := S3) ![2] S1.size inb_S3_S1_2)).squeeze S_ squeezes_S1_S_).sem
    = csem (.inr (true, false, 2)) := rfl
theorem sem_8_0 : SemLoc.dma ((SemArray.slice cc0_scratch8 (Rect.unit (s := S3) ![0] S1.size inb_S3_S1_0)).squeeze S_ squeezes_S1_S_).sem
    = csem (.inr (true, true, 0)) := rfl
theorem sem_8_1 : SemLoc.dma ((SemArray.slice cc0_scratch8 (Rect.unit (s := S3) ![1] S1.size inb_S3_S1_1)).squeeze S_ squeezes_S1_S_).sem
    = csem (.inr (true, true, 1)) := rfl
theorem sem_8_2 : SemLoc.dma ((SemArray.slice cc0_scratch8 (Rect.unit (s := S3) ![2] S1.size inb_S3_S1_2)).squeeze S_ squeezes_S1_S_).sem
    = csem (.inr (true, true, 2)) := rfl
/-! ## What a tile counts, on the memrefs the program names -/

theorem credit_0 (x : Bool × Bool × Fin 3) : (Memref.whole cc0_scratch0 : Memref sig .tc .vmem S8x128 .f32).view.dmaCredit = need (.inr x) := rfl
theorem credit_1 (x : Bool × Bool × Fin 3) : (Memref.whole cc0_scratch1 : Memref sig .tc .vmem S8x128 .f32).view.dmaCredit = need (.inr x) := rfl
theorem credit_2_0 : (((Memref.whole cc0_scratch2 : Memref sig .tc .vmem S3x8x128 .f32).slice
    (Rect.unit (s := S3x8x128) ![0, 0, 0] S1x8x128.size inb_S3x8x128_S1x8x128_0_0_0) (fun _ => rfl)).squeeze S8x128 squeezes_S1x8x128_S8x128).view.dmaCredit
    = need (.inr (false, true, 0)) := rfl
theorem credit_2_1 : (((Memref.whole cc0_scratch2 : Memref sig .tc .vmem S3x8x128 .f32).slice
    (Rect.unit (s := S3x8x128) ![1, 0, 0] S1x8x128.size inb_S3x8x128_S1x8x128_1_0_0) (fun _ => rfl)).squeeze S8x128 squeezes_S1x8x128_S8x128).view.dmaCredit
    = need (.inr (false, true, 1)) := rfl
theorem credit_2_2 : (((Memref.whole cc0_scratch2 : Memref sig .tc .vmem S3x8x128 .f32).slice
    (Rect.unit (s := S3x8x128) ![2, 0, 0] S1x8x128.size inb_S3x8x128_S1x8x128_2_0_0) (fun _ => rfl)).squeeze S8x128 squeezes_S1x8x128_S8x128).view.dmaCredit
    = need (.inr (false, true, 2)) := rfl
theorem credit_3_0 : (((Memref.whole cc0_scratch3 : Memref sig .tc .vmem S3x8x128 .f32).slice
    (Rect.unit (s := S3x8x128) ![0, 0, 0] S1x8x128.size inb_S3x8x128_S1x8x128_0_0_0) (fun _ => rfl)).squeeze S8x128 squeezes_S1x8x128_S8x128).view.dmaCredit
    = need (.inr (true, true, 0)) := rfl
theorem credit_3_1 : (((Memref.whole cc0_scratch3 : Memref sig .tc .vmem S3x8x128 .f32).slice
    (Rect.unit (s := S3x8x128) ![1, 0, 0] S1x8x128.size inb_S3x8x128_S1x8x128_1_0_0) (fun _ => rfl)).squeeze S8x128 squeezes_S1x8x128_S8x128).view.dmaCredit
    = need (.inr (true, true, 1)) := rfl
theorem credit_3_2 : (((Memref.whole cc0_scratch3 : Memref sig .tc .vmem S3x8x128 .f32).slice
    (Rect.unit (s := S3x8x128) ![2, 0, 0] S1x8x128.size inb_S3x8x128_S1x8x128_2_0_0) (fun _ => rfl)).squeeze S8x128 squeezes_S1x8x128_S8x128).view.dmaCredit
    = need (.inr (true, true, 2)) := rfl

omit [FloatOps F] in
/-- The landing tiles of the two arrays. -/
theorem split2 (c : Dev nD) (f : S3x8x128.Idx → Elt F .f32) : (has c (Memref.whole cc0_scratch2) f : sProp 𝕄)
    ⊢ iprop((∃ X : Tile F, tileAt c (slotM false 0) fullShare X) ∗ (∃ X : Tile F, tileAt c (slotM false 1) fullShare X)
      ∗ ∃ X : Tile F, tileAt c (slotM false 2) fullShare X) := (apart c false f).trans (Entails.of_eq (three_eq _))

omit [FloatOps F] in
theorem split3 (c : Dev nD) (f : S3x8x128.Idx → Elt F .f32) : (has c (Memref.whole cc0_scratch3) f : sProp 𝕄)
    ⊢ iprop((∃ X : Tile F, tileAt c (slotM true 0) fullShare X) ∗ (∃ X : Tile F, tileAt c (slotM true 1) fullShare X)
      ∗ ∃ X : Tile F, tileAt c (slotM true 2) fullShare X) := (apart c true f).trans (Entails.of_eq (three_eq _))

omit [FloatOps F] in
theorem join2 (v : Bool → Dev nD → Tile F) (c : Dev nD) :
    iprop(landed v c (.inr (false, true, 0)) ∗ landed v c (.inr (false, true, 1)) ∗ landed v c (.inr (false, true, 2)))
      ⊢ (has c (Memref.whole cc0_scratch2) (stacked fun j => v false (peer false j c)) : sProp 𝕄) := by
  rw [landed_tile, landed_tile, landed_tile]
  exact (Entails.of_eq (three_eq fun j => tileAt c (slotM false j) fullShare (v false (peer false j c))).symm).trans (together c false _)

omit [FloatOps F] in
theorem join3 (v : Bool → Dev nD → Tile F) (c : Dev nD) :
    iprop(landed v c (.inr (true, true, 0)) ∗ landed v c (.inr (true, true, 1)) ∗ landed v c (.inr (true, true, 2)))
      ⊢ (has c (Memref.whole cc0_scratch3) (stacked fun j => v true (peer true j c)) : sProp 𝕄) := by
  rw [landed_tile, landed_tile, landed_tile]
  exact (Entails.of_eq (three_eq fun j => tileAt c (slotM true j) fullShare (v true (peer true j c))).symm).trans (together c true _)

omit [FloatOps F] in
/-- The sent tiles, lent and given back. -/
theorem lend0 (c : Dev nD) (X : Tile F) : (has c (Memref.whole cc0_scratch0) X : sProp 𝕄)
    ⊢ iprop(tileAt c (srcM false) (shr 0) X ∗ tileAt c (srcM false) (shr 1) X ∗ tileAt c (srcM false) (shr 2) X) :=
  lend c (srcM false) X

omit [FloatOps F] in
theorem lend1 (c : Dev nD) (X : Tile F) : (has c (Memref.whole cc0_scratch1) X : sProp 𝕄)
    ⊢ iprop(tileAt c (srcM true) (shr 0) X ∗ tileAt c (srcM true) (shr 1) X ∗ tileAt c (srcM true) (shr 2) X) :=
  lend c (srcM true) X

omit [FloatOps F] in
theorem back0 (v : Bool → Dev nD → Tile F) (c : Dev nD) :
    iprop(landed v c (.inr (false, false, 0)) ∗ landed v c (.inr (false, false, 1)) ∗ landed v c (.inr (false, false, 2)))
      ⊢ (has c (Memref.whole cc0_scratch0) (v false c) : sProp 𝕄) := by
  rw [landed_send, landed_send, landed_send]; exact unlend c (srcM false) (v false c)

omit [FloatOps F] in
theorem back1 (v : Bool → Dev nD → Tile F) (c : Dev nD) :
    iprop(landed v c (.inr (true, false, 0)) ∗ landed v c (.inr (true, false, 1)) ∗ landed v c (.inr (true, false, 2)))
      ⊢ (has c (Memref.whole cc0_scratch1) (v true c) : sProp 𝕄) := by
  rw [landed_send, landed_send, landed_send]; exact unlend c (srcM true) (v true c)

/-- A finished program has its result. -/
theorem run_ret (c : Dev nD) (Q : PUnit → sProp 𝕄) : (|={Set.univ}=> Q ⟨⟩ : sProp 𝕄) ⊢ run c (.ret ⟨⟩ : Prog (TpuEff nD τ sig (Elt F) Λ₀ .tc) PUnit) Q := by
  iintro H
  unfold run
  rw [wp_ret]; iexact H

/-- The dues left after the first `n` landings. -/
abbrev left (n : ℕ) : List Due := dues.drop n

abbrev wholeX : Rect S512x256 := Rect.unit (s := S512x256) ![0, 0] S512x256.size inb_S512x256_S512x256_0_0

theorem whole_emb (y : S512x256.Idx) : wholeX.emb y = y := by
  funext a; refine Fin.ext ?_; rw [Rect.emb_apply]
  match a with
  | ⟨0, _⟩ => show 0 + 1 * (y 0).val = (y 0).val; omega
  | ⟨1, _⟩ => show 0 + 1 * (y 1).val = (y 1).val; omega

/-- A load of all of a block is the block. -/
theorem load_x (X : S512x256.Idx → Elt F .f32) : (fun x => X (wholeX.toLoadRect.idx x)) = X := funext fun y => congrArg X (whole_emb y)

theorem load_g (X : S1x256.Idx → Elt F .f32) :
    (fun x => X ((Rect.unit (s := S1x256) ![0, 0] S1x256.size inb_S1x256_S1x256_0_0).toLoadRect.idx x)) = X := by
  refine funext fun y => congrArg X ?_
  funext a; refine Fin.ext ?_
  match a with
  | ⟨0, _⟩ => show 0 + 1 * (y 0).val = (y 0).val; omega
  | ⟨1, _⟩ => show 0 + 1 * (y 1).val = (y 1).val; omega

set_option maxHeartbeats 3200000 in
theorem body_run (c : Dev nD) (Q : PUnit → sProp 𝕄) :
    iprop(pre m K c ∗ (post m c -∗ |={Set.univ}=> Q ⟨⟩)) ⊢ run c (theBody (F := F)) Q := by
  unfold theBody run
  simp only [cc0_body_eq_skeleton]; unfold cc0_body_skel
  simp only [k0_part1_eq_skeleton, k0_part2_eq_skeleton, k0_part3_eq_skeleton, k0_part4_eq_skeleton, k0_part5_eq_skeleton,
    k0_part6_eq_skeleton, k0_part7_eq_skeleton, k0_part8_eq_skeleton, k0_part9_eq_skeleton]
  unfold k0_part1_skel k0_part2_skel k0_part3_skel k0_part4_skel k0_part5_skel k0_part6_skel k0_part7_skel k0_part8_skel k0_part9_skel
  simp only [semSignalWord, semWaitWord, Prog.lift, Prog.bind_op, Prog.bind_ret, Prog.pure_eq_ret, wp_deviceId]
  unfold pre kit readyToks sendToks seats creds
  simp only [three_eq]
  iintro ⟨⟨#HR, #Hlev, HO, ⟨⟨Hr0, Hr1, Hr2⟩, ⟨⟨Hs0, Ht0⟩, ⟨Hs1, Ht1⟩, Hs2, Ht2⟩, ⟨HaR, ⟨HaS0, HaS1, HaS2⟩, HaV0, HaV1, HaV2⟩, HcR, HcV0, HcV1, HcV2⟩,
    ⟨⟨Hr0', Hr1', Hr2'⟩, ⟨⟨Hs0', Ht0'⟩, ⟨Hs1', Ht1'⟩, Hs2', Ht2'⟩, ⟨HaR', ⟨HaS0', HaS1', HaS2'⟩, HaV0', HaV1', HaV2'⟩, HcR', HcV0', HcV1', HcV2'⟩,
    Hx, Hg, ⟨%o, Ho⟩, ⟨%a, Ha⟩, ⟨%b, Hb⟩, ⟨%f, Hf⟩, %g, Hgg⟩, Hk⟩
  ihave Hf' := (split2 c f) $$ Hf
  icases Hf' with ⟨Hf0, Hf1, Hf2⟩
  ihave Hg' := (split3 c g) $$ Hgg
  icases Hg' with ⟨Hg0, Hg1, Hg2⟩
  -- the six signals, each with the landing tile it frees
  iapply (wp_notify (val m) K c _ false 0 (left 1) (dev1_eq c) rfl rfl) $$ [HO Hr0 Hf0]
  · isplitr; · iexact HR
    isplitl [HO]; · iexact HO
    isplitl [Hr0] <;> iassumption
  iintro HO
  iapply (wp_notify (val m) K c _ true 0 (left 2) (dev2_eq c) rfl rfl) $$ [HO Hr0' Hg0]
  · isplitr; · iexact HR
    isplitl [HO]; · iexact HO
    isplitl [Hr0'] <;> iassumption
  iintro HO
  iapply (wp_notify (val m) K c _ false 1 (left 3) (dev3_eq c) rfl rfl) $$ [HO Hr1 Hf1]
  · isplitr; · iexact HR
    isplitl [HO]; · iexact HO
    isplitl [Hr1] <;> iassumption
  iintro HO
  iapply (wp_notify (val m) K c _ true 1 (left 4) (dev4_eq c) rfl rfl) $$ [HO Hr1' Hg1]
  · isplitr; · iexact HR
    isplitl [HO]; · iexact HO
    isplitl [Hr1'] <;> iassumption
  iintro HO
  iapply (wp_notify (val m) K c _ false 2 (left 5) (dev5_eq c) rfl rfl) $$ [HO Hr2 Hf2]
  · isplitr; · iexact HR
    isplitl [HO]; · iexact HO
    isplitl [Hr2] <;> iassumption
  iintro HO
  iapply (wp_notify (val m) K c _ true 2 (left 6) (dev6_eq c) rfl rfl) $$ [HO Hr2' Hg2]
  · isplitr; · iexact HR
    isplitl [HO]; · iexact HO
    isplitl [Hr2'] <;> iassumption
  iintro HO
  iapply (wp_load_as c (Memref.whole cc0_stg0_0) fullShare _ (xIn m c) (load_x _)) $$ Hx; iintro Hx
  -- the 512 sums, stored twice
  iapply (wp_load_of c (Memref.whole cc0_scratch0) fullShare _) $$ Ha; iintro Ha
  iapply (wp_store_of c (Memref.whole cc0_scratch0) (a) (upper (packed m c) a) (fun j => (upper_in _ _ j).trans (congrFun (pay5_eq _ _).symm j)) (upper_out _ _)) $$ Ha; iintro Ha
  iapply (wp_load_of c (Memref.whole cc0_scratch0) fullShare _) $$ Ha; iintro Ha
  iapply (wp_store_of c (Memref.whole cc0_scratch0) (upper (packed m c) a) (val m false c) (fun j => (lower_in _ j).trans (congrFun (pay6_eq _ _).symm j)) (fun y h => lower_out (packed m c) a y h)) $$ Ha; iintro Ha
  -- the plane's exchange
  iapply (wp_await (val m) K c (.inl false) (left 6) (wpE_semWait_eq 𝒱₀ (c : Thread nD τ) none Set.univ) rfl rfl (by decide)) $$ [HO HcR HaR]
  · isplitr; · iexact HR
    isplitr; · iexact Hlev
    isplitl [HO]; · iexact HO
    isplitl [HcR] <;> iassumption
  iintro ⟨HO, HaR, HN⟩
  ihave HN' := (Entails.of_eq (landed_ready (val m) c false)) $$ HN
  icases HN' with ⟨HN2, HN1, HN0⟩
  ihave HL := (lend0 c (val m false c)) $$ Ha
  icases HL with ⟨HL0, HL1, HL2⟩
  iapply (wp_send_tile (val m) K c _ false 0 (left 7) (dev7_eq c) rfl rfl rfl rfl) $$ [HO HL0 HN0 Hs0 Ht0]
  · isplitr; · iexact HR
    isplitl [HO]; · iexact HO
    isplitl [HL0]; · iexact HL0
    isplitl [HN0]; · iexact HN0
    isplitl [Hs0] <;> iassumption
  iintro ⟨HO, HcS0⟩
  iapply (wp_send_tile (val m) K c _ false 1 (left 8) (dev8_eq c) rfl rfl rfl rfl) $$ [HO HL1 HN1 Hs1 Ht1]
  · isplitr; · iexact HR
    isplitl [HO]; · iexact HO
    isplitl [HL1]; · iexact HL1
    isplitl [HN1]; · iexact HN1
    isplitl [Hs1] <;> iassumption
  iintro ⟨HO, HcS1⟩
  iapply (wp_send_tile (val m) K c _ false 2 (left 9) (dev9_eq c) rfl rfl rfl rfl) $$ [HO HL2 HN2 Hs2 Ht2]
  · isplitr; · iexact HR
    isplitl [HO]; · iexact HO
    isplitl [HL2]; · iexact HL2
    isplitl [HN2]; · iexact HN2
    isplitl [Hs2] <;> iassumption
  iintro ⟨HO, HcS2⟩
  iapply (wp_load_as c (Memref.whole cc0_stg1_0) fullShare _ (gIn m c) (load_g _)) $$ Hg; iintro Hg
  iapply (wp_await (val m) K c (.inr (false, true, 0)) (left 9) (wpE_waitDma2_eq 𝒱₀ (c : Thread nD τ) none Set.univ) (sem_6_0) (credit_2_0) (by decide)) $$ [HO HcV0 HaV0]
  · isplitr; · iexact HR
    isplitr; · iexact Hlev
    isplitl [HO]; · iexact HO
    isplitl [HcV0] <;> iassumption
  iintro ⟨HO, HaV0, HV0⟩
  iapply (wp_await (val m) K c (.inr (false, true, 1)) (left 9) (wpE_waitDma2_eq 𝒱₀ (c : Thread nD τ) none Set.univ) (sem_6_1) (credit_2_1) (by decide)) $$ [HO HcV1 HaV1]
  · isplitr; · iexact HR
    isplitr; · iexact Hlev
    isplitl [HO]; · iexact HO
    isplitl [HcV1] <;> iassumption
  iintro ⟨HO, HaV1, HV1⟩
  iapply (wp_await (val m) K c (.inr (false, true, 2)) (left 9) (wpE_waitDma2_eq 𝒱₀ (c : Thread nD τ) none Set.univ) (sem_6_2) (credit_2_2) (by decide)) $$ [HO HcV2 HaV2]
  · isplitr; · iexact HR
    isplitr; · iexact Hlev
    isplitl [HO]; · iexact HO
    isplitl [HcV2] <;> iassumption
  iintro ⟨HO, HaV2, HV2⟩
  ihave Hf := (join2 (val m) c) $$ [HV0 HV1 HV2]
  · isplitl [HV0]; · iexact HV0
    isplitl [HV1] <;> iassumption
  iapply (wp_load_as c (Memref.whole cc0_scratch2) fullShare _ (heard0 m c) rfl) $$ Hf; iintro Hf
  -- the plane's sums, stored twice
  iapply (wp_load_of c (Memref.whole cc0_scratch1) fullShare _) $$ Hb; iintro Hb
  iapply (wp_store_of c (Memref.whole cc0_scratch1) (b) (upper (plane m c) b) (fun j => (upper_in _ _ j).trans (congrFun (pay9_eq _ _).symm j)) (upper_out _ _)) $$ Hb; iintro Hb
  iapply (wp_load_of c (Memref.whole cc0_scratch1) fullShare _) $$ Hb; iintro Hb
  iapply (wp_store_of c (Memref.whole cc0_scratch1) (upper (plane m c) b) (val m true c) (fun j => (lower_in _ j).trans (congrFun (pay10_eq _ _).symm j)) (fun y h => lower_out (plane m c) b y h)) $$ Hb; iintro Hb
  -- the exchange between planes
  iapply (wp_await (val m) K c (.inl true) (left 9) (wpE_semWait_eq 𝒱₀ (c : Thread nD τ) none Set.univ) rfl rfl (by decide)) $$ [HO HcR' HaR']
  · isplitr; · iexact HR
    isplitr; · iexact Hlev
    isplitl [HO]; · iexact HO
    isplitl [HcR'] <;> iassumption
  iintro ⟨HO, HaR', HN⟩
  ihave HN' := (Entails.of_eq (landed_ready (val m) c true)) $$ HN
  icases HN' with ⟨HN2, HN1, HN0⟩
  ihave HL := (lend1 c (val m true c)) $$ Hb
  icases HL with ⟨HL0, HL1, HL2⟩
  iapply (wp_send_tile (val m) K c _ true 0 (left 10) (dev10_eq c) rfl rfl rfl rfl) $$ [HO HL0 HN0 Hs0' Ht0']
  · isplitr; · iexact HR
    isplitl [HO]; · iexact HO
    isplitl [HL0]; · iexact HL0
    isplitl [HN0]; · iexact HN0
    isplitl [Hs0'] <;> iassumption
  iintro ⟨HO, HcS0'⟩
  iapply (wp_send_tile (val m) K c _ true 1 (left 11) (dev11_eq c) rfl rfl rfl rfl) $$ [HO HL1 HN1 Hs1' Ht1']
  · isplitr; · iexact HR
    isplitl [HO]; · iexact HO
    isplitl [HL1]; · iexact HL1
    isplitl [HN1]; · iexact HN1
    isplitl [Hs1'] <;> iassumption
  iintro ⟨HO, HcS1'⟩
  iapply (wp_send_tile (val m) K c _ true 2 (left 12) (dev12_eq c) rfl rfl rfl rfl) $$ [HO HL2 HN2 Hs2' Ht2']
  · isplitr; · iexact HR
    isplitl [HO]; · iexact HO
    isplitl [HL2]; · iexact HL2
    isplitl [HN2]; · iexact HN2
    isplitl [Hs2'] <;> iassumption
  iintro ⟨HO, HcS2'⟩
  iapply (wp_await (val m) K c (.inr (true, true, 0)) (left 12) (wpE_waitDma2_eq 𝒱₀ (c : Thread nD τ) none Set.univ) (sem_8_0) (credit_3_0) (by decide)) $$ [HO HcV0' HaV0']
  · isplitr; · iexact HR
    isplitr; · iexact Hlev
    isplitl [HO]; · iexact HO
    isplitl [HcV0'] <;> iassumption
  iintro ⟨HO, HaV0', HV0⟩
  iapply (wp_await (val m) K c (.inr (true, true, 1)) (left 12) (wpE_waitDma2_eq 𝒱₀ (c : Thread nD τ) none Set.univ) (sem_8_1) (credit_3_1) (by decide)) $$ [HO HcV1' HaV1']
  · isplitr; · iexact HR
    isplitr; · iexact Hlev
    isplitl [HO]; · iexact HO
    isplitl [HcV1'] <;> iassumption
  iintro ⟨HO, HaV1', HV1⟩
  iapply (wp_await (val m) K c (.inr (true, true, 2)) (left 12) (wpE_waitDma2_eq 𝒱₀ (c : Thread nD τ) none Set.univ) (sem_8_2) (credit_3_2) (by decide)) $$ [HO HcV2' HaV2']
  · isplitr; · iexact HR
    isplitr; · iexact Hlev
    isplitl [HO]; · iexact HO
    isplitl [HcV2'] <;> iassumption
  iintro ⟨HO, HaV2', HV2⟩
  ihave Hgg := (join3 (val m) c) $$ [HV0 HV1 HV2]
  · isplitl [HV0]; · iexact HV0
    isplitl [HV1] <;> iassumption
  iapply (wp_load_as c (Memref.whole cc0_scratch3) fullShare _ (heard1 m c) rfl) $$ Hgg; iintro Hgg
  -- the result
  iapply (wp_load_of c (Memref.whole cc0_stg2_0) fullShare _) $$ Ho; iintro Ho
  iapply (wp_store_of c (Memref.whole cc0_stg2_0) (o) (outAt m c) (fun j => congrArg (outAt m c) (whole_emb j)) (fun y hy => absurd (Finset.mem_map.mpr ⟨y, Finset.mem_univ _, whole_emb y⟩) hy)) $$ Ho; iintro Ho
  -- the sends are over
  iapply (wp_await (val m) K c (.inr (false, false, 0)) (left 12) (wpE_waitDma2_eq 𝒱₀ (c : Thread nD τ) none Set.univ) (sem_5_0) (credit_0 _) (by decide)) $$ [HO HcS0 HaS0]
  · isplitr; · iexact HR
    isplitr; · iexact Hlev
    isplitl [HO]; · iexact HO
    isplitl [HcS0] <;> iassumption
  iintro ⟨HO, HaS0, HB0⟩
  iapply (wp_await (val m) K c (.inr (true, false, 0)) (left 12) (wpE_waitDma2_eq 𝒱₀ (c : Thread nD τ) none Set.univ) (sem_7_0) (credit_1 _) (by decide)) $$ [HO HcS0' HaS0']
  · isplitr; · iexact HR
    isplitr; · iexact Hlev
    isplitl [HO]; · iexact HO
    isplitl [HcS0'] <;> iassumption
  iintro ⟨HO, HaS0', HB0'⟩
  iapply (wp_await (val m) K c (.inr (false, false, 1)) (left 12) (wpE_waitDma2_eq 𝒱₀ (c : Thread nD τ) none Set.univ) (sem_5_1) (credit_0 _) (by decide)) $$ [HO HcS1 HaS1]
  · isplitr; · iexact HR
    isplitr; · iexact Hlev
    isplitl [HO]; · iexact HO
    isplitl [HcS1] <;> iassumption
  iintro ⟨HO, HaS1, HB1⟩
  iapply (wp_await (val m) K c (.inr (true, false, 1)) (left 12) (wpE_waitDma2_eq 𝒱₀ (c : Thread nD τ) none Set.univ) (sem_7_1) (credit_1 _) (by decide)) $$ [HO HcS1' HaS1']
  · isplitr; · iexact HR
    isplitr; · iexact Hlev
    isplitl [HO]; · iexact HO
    isplitl [HcS1'] <;> iassumption
  iintro ⟨HO, HaS1', HB1'⟩
  iapply (wp_await (val m) K c (.inr (false, false, 2)) (left 12) (wpE_waitDma2_eq 𝒱₀ (c : Thread nD τ) none Set.univ) (sem_5_2) (credit_0 _) (by decide)) $$ [HO HcS2 HaS2]
  · isplitr; · iexact HR
    isplitr; · iexact Hlev
    isplitl [HO]; · iexact HO
    isplitl [HcS2] <;> iassumption
  iintro ⟨HO, HaS2, HB2⟩
  iapply (wp_await (val m) K c (.inr (true, false, 2)) (left 12) (wpE_waitDma2_eq 𝒱₀ (c : Thread nD τ) none Set.univ) (sem_7_2) (credit_1 _) (by decide)) $$ [HO HcS2' HaS2']
  · isplitr; · iexact HR
    isplitr; · iexact Hlev
    isplitl [HO]; · iexact HO
    isplitl [HcS2'] <;> iassumption
  iintro ⟨HO, HaS2', HB2'⟩
  ihave Ha := (back0 (val m) c) $$ [HB0 HB1 HB2]
  · isplitl [HB0]; · iexact HB0
    isplitl [HB1] <;> iassumption
  ihave Hb := (back1 (val m) c) $$ [HB0' HB1' HB2']
  · isplitl [HB0']; · iexact HB0'
    isplitl [HB1'] <;> iassumption
  iapply (run_ret c Q)
  iapply Hk
  unfold post seats
  simp only [three_eq]
  isplitl [HO]; · iexact HO
  isplitl [HaR HaS0 HaS1 HaS2 HaV0 HaV1 HaV2]
  · isplitl [HaR]; · iexact HaR
    isplitl [HaS0 HaS1 HaS2]
    · isplitl [HaS0]; · iexact HaS0
      isplitl [HaS1] <;> iassumption
    isplitl [HaV0]; · iexact HaV0
    isplitl [HaV1] <;> iassumption
  isplitl [HaR' HaS0' HaS1' HaS2' HaV0' HaV1' HaV2']
  · isplitl [HaR']; · iexact HaR'
    isplitl [HaS0' HaS1' HaS2']
    · isplitl [HaS0']; · iexact HaS0'
      isplitl [HaS1'] <;> iassumption
    isplitl [HaV0']; · iexact HaV0'
    isplitl [HaV1'] <;> iassumption
  isplitl [Hx]; · iexact Hx
  isplitl [Hg]; · iexact Hg
  isplitl [Ho]; · iexact Ho
  isplitl [Ha]; · iexists _; iexact Ha
  isplitl [Hb]; · iexists _; iexact Hb
  isplitl [Hf]; · iexists _; iexact Hf
  iexists _; iexact Hgg

end Cert.NormProof
-- ==== Proof.Deal.lean ====
/-
# What each device is dealt at launch

Every cell is put under the schedule; the tokens of a cell's duties go to the peers that pay them; what the peers owe
a cell is credited to its owner.
-/
module

public import proofs.«01_k».proof.Proof.Body

@[expose] public section

noncomputable section

namespace Cert.NormProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (val : Bool → Dev nD → Tile F)

/-! ## Sums over the cells of a device -/

/-- The cells of a phase. -/
def ofPhase (ph : Bool) (Φ : CIx → sProp 𝕄) : sProp 𝕄 :=
  iprop(Φ (.inl ph) ∗ (bigSep Finset.univ fun i : Fin 3 => Φ (.inr (ph, false, i))) ∗ bigSep Finset.univ fun j : Fin 3 => Φ (.inr (ph, true, j)))

omit [FloatOps F] in
theorem two_eq (Φ : Bool → sProp 𝕄) : bigSep Finset.univ Φ = iprop(Φ false ∗ Φ true) :=
  bigSep_univ_eq_bigSepL [false, true] (by decide) (by decide) Φ

omit [FloatOps F] in
theorem sum_eq {A B : Type} [Fintype A] [Fintype B] (Φ : A ⊕ B → sProp 𝕄) :
    bigSep Finset.univ Φ = iprop(bigSep Finset.univ (fun a => Φ (.inl a)) ∗ bigSep Finset.univ (fun b => Φ (.inr b))) := bigSep_univ_sum Φ

omit [FloatOps F] in
theorem cells_eq (Φ : CIx → sProp 𝕄) : bigSep Finset.univ Φ = iprop((Φ (.inl false) ∗ Φ (.inl true))
    ∗ ((bigSep Finset.univ fun i : Fin 3 => Φ (.inr (false, false, i))) ∗ bigSep Finset.univ fun j : Fin 3 => Φ (.inr (false, true, j)))
    ∗ (bigSep Finset.univ fun i : Fin 3 => Φ (.inr (true, false, i))) ∗ bigSep Finset.univ fun j : Fin 3 => Φ (.inr (true, true, j))) := by
  rw [sum_eq, two_eq, bigSep_univ_prod, two_eq, bigSep_univ_prod, bigSep_univ_prod, two_eq, two_eq]

omit [FloatOps F] in
theorem cells_split (Φ : CIx → sProp 𝕄) : bigSep Finset.univ Φ ⊢ iprop(ofPhase false Φ ∗ ofPhase true Φ) := by
  rw [cells_eq]; unfold ofPhase
  iintro ⟨⟨H1, H2⟩, ⟨H3, H4⟩, H5, H6⟩
  isplitl [H1 H3 H4]
  · isplitl [H1]; · iexact H1
    isplitl [H3] <;> iassumption
  isplitl [H2]; · iexact H2
  isplitl [H5] <;> iassumption

omit [FloatOps F] in
theorem cells_join (Φ : CIx → sProp 𝕄) : iprop(ofPhase false Φ ∗ ofPhase true Φ) ⊢ bigSep Finset.univ Φ := by
  rw [cells_eq]; unfold ofPhase
  iintro ⟨⟨H1, H3, H4⟩, H2, H5, H6⟩
  isplitl [H1 H2]
  · isplitl [H1] <;> iassumption
  isplitl [H3 H4]
  · isplitl [H3] <;> iassumption
  isplitl [H5] <;> iassumption

/-! ## The semaphores are the cells -/

/-- The kernel's own scoped semaphores: the second ready count and the twelve transfer counts. -/
def osem : Fin 13 → SemLoc sig := fun k =>
  match k with
  | 0 => csem (.inl true)
  | 1 => csem (.inr (false, false, 0)) | 2 => csem (.inr (false, false, 1)) | 3 => csem (.inr (false, false, 2))
  | 4 => csem (.inr (false, true, 0)) | 5 => csem (.inr (false, true, 1)) | 6 => csem (.inr (false, true, 2))
  | 7 => csem (.inr (true, false, 0)) | 8 => csem (.inr (true, false, 1)) | 9 => csem (.inr (true, false, 2))
  | 10 => csem (.inr (true, true, 0)) | 11 => csem (.inr (true, true, 1)) | 12 => csem (.inr (true, true, 2))

theorem ownSemFacts : Pipeline.OwnSemFacts cfg0.spec osem := by decide +kernel

abbrev ownSems (c : Dev nD) : sProp 𝕄 := Pipeline.ownSems0 (Ix := Unit) (Name := ℕ) (U := UU) (Lvl := ℕ) (Val := Elt F) (τ := τ) osem c

omit [FloatOps F] in
theorem ownSems_eq (c : Dev nD) : (ownSems c : sProp 𝕄)
    = iprop(semVal (cell c (.inl true)) 0
      ∗ semVal (cell c (.inr (false, false, 0))) 0 ∗ semVal (cell c (.inr (false, false, 1))) 0 ∗ semVal (cell c (.inr (false, false, 2))) 0
      ∗ semVal (cell c (.inr (false, true, 0))) 0 ∗ semVal (cell c (.inr (false, true, 1))) 0 ∗ semVal (cell c (.inr (false, true, 2))) 0
      ∗ semVal (cell c (.inr (true, false, 0))) 0 ∗ semVal (cell c (.inr (true, false, 1))) 0 ∗ semVal (cell c (.inr (true, false, 2))) 0
      ∗ semVal (cell c (.inr (true, true, 0))) 0 ∗ semVal (cell c (.inr (true, true, 1))) 0 ∗ semVal (cell c (.inr (true, true, 2))) 0) := by
  unfold ownSems
  rw [Pipeline.ownSems0_eq_of_list c osem [0, 1, 2, 3, 4, 5, 6, 7, 8, 9, 10, 11, 12] (by decide) (by decide)]; rfl

omit [FloatOps F] in
/-- The ready count of the first phase is the launch's one unscoped semaphore. -/
theorem unscopedSems_eq (c : Dev nD) : (unscopedSems0 c : sProp 𝕄) = semVal (cell c (.inl false)) 0 := by
  unfold unscopedSems0; rw [bigSep_eq_bigSepL_of_eq [csem (.inl false)] (by decide +kernel) (by decide)]; rfl

omit [FloatOps F] in
theorem sems_in (c : Dev nD) : iprop(ownSems c ∗ unscopedSems0 c) ⊢ (bigSep Finset.univ fun k : CIx => semVal (cell c k) 0 : sProp 𝕄) := by
  rw [ownSems_eq, unscopedSems_eq, cells_eq]
  simp only [three_eq]
  iintro ⟨⟨Hz, A0, A1, A2, B0, B1, B2, C0, C1, C2, D0, D1, D2⟩, Hb⟩
  isplitl [Hb Hz]; · isplitl [Hb] <;> iassumption
  isplitl [A0 A1 A2 B0 B1 B2]
  · isplitl [A0 A1 A2]
    · isplitl [A0]; · iexact A0
      isplitl [A1] <;> iassumption
    isplitl [B0]; · iexact B0
    isplitl [B1] <;> iassumption
  isplitl [C0 C1 C2]
  · isplitl [C0]; · iexact C0
    isplitl [C1] <;> iassumption
  isplitl [D0]; · iexact D0
  isplitl [D1] <;> iassumption

omit [FloatOps F] in
theorem sems_out (c : Dev nD) : (bigSep Finset.univ fun k : CIx => semVal (cell c k) 0 : sProp 𝕄) ⊢ iprop(unscopedSems0 c ∗ ownSems c) := by
  rw [ownSems_eq, unscopedSems_eq, cells_eq]
  simp only [three_eq]
  iintro ⟨⟨Hb, Hz⟩, ⟨⟨A0, A1, A2⟩, B0, B1, B2⟩, ⟨C0, C1, C2⟩, D0, D1, D2⟩
  isplitl [Hb]; · iexact Hb
  isplitl [Hz]; · iexact Hz
  isplitl [A0]; · iexact A0
  isplitl [A1]; · iexact A1
  isplitl [A2]; · iexact A2
  isplitl [B0]; · iexact B0
  isplitl [B1]; · iexact B1
  isplitl [B2]; · iexact B2
  isplitl [C0]; · iexact C0
  isplitl [C1]; · iexact C1
  isplitl [C2]; · iexact C2
  isplitl [D0]; · iexact D0
  isplitl [D1] <;> iassumption

/-! ## The tokens -/

/-- A duty of a device's cells: a ready signal from one of three, or the one landing of a transfer cell. -/
abbrev TIx : Type := (Bool × Fin 3) ⊕ (Bool × Bool × Fin 3)

/-- The duty as the schedule names it. -/
def tokOf (p : Dev nD × TIx) : GSem nD τ sig × ℕ × Fin 3 :=
  match p.2 with
  | .inl (ph, i) => (cell p.1 (.inl ph), 0, i)
  | .inr x => (cell p.1 (.inr x), 0, 0)

theorem tokOf_inj : Function.Injective tokOf := by
  rintro ⟨c, t⟩ ⟨c', t'⟩ h
  rcases t with ⟨ph, i⟩ | x <;> rcases t' with ⟨ph', i'⟩ | x'
  · obtain ⟨h1, h2⟩ := cell_inj (congrArg (fun y : GSem nD τ sig × ℕ × Fin 3 => y.1) h)
    have h3 : i = i' := congrArg (fun y : GSem nD τ sig × ℕ × Fin 3 => y.2.2) h
    cases h2; exact Prod.ext h1 (by rw [h3])
  · exact absurd (cell_inj (congrArg (fun y : GSem nD τ sig × ℕ × Fin 3 => y.1) h)).2 (by intro e; cases e)
  · exact absurd (cell_inj (congrArg (fun y : GSem nD τ sig × ℕ × Fin 3 => y.1) h)).2 (by intro e; cases e)
  · obtain ⟨h1, h2⟩ := cell_inj (congrArg (fun y : GSem nD τ sig × ℕ × Fin 3 => y.1) h)
    cases h2; exact Prod.ext h1 rfl

/-- The token of a duty. -/
def tok (c : Dev nD) (t : TIx) : sProp 𝕄 := dutyTok ER (tokOf (c, t)).1 (tokOf (c, t)).2.1 (tokOf (c, t)).2.2

/-- Whose cell the duty is of that a device pays. -/
def payee : TIx → Dev nD ≃ Dev nD
  | .inl (ph, i) => step ph i
  | .inr (_, false, _) => Equiv.refl _
  | .inr (ph, true, j) => step ph j.rev

omit [FloatOps F] in
/-- The tokens dealt to the devices that pay them. -/
theorem toks_dealt : (bigSep Finset.univ fun c : Dev nD => bigSep Finset.univ fun t : TIx => (tok c t : sProp 𝕄))
    = bigSep Finset.univ fun c : Dev nD => bigSep Finset.univ fun t : TIx => tok (payee t c) t := by
  rw [bigSep_univ_comm, bigSep_univ_comm fun (c : Dev nD) (t : TIx) => (tok (payee t c) t : sProp 𝕄)]
  exact bigSep_congr fun t _ => bigSep_univ_equiv (payee t) fun c => (tok c t : sProp 𝕄)

omit [FloatOps F] in
theorem tok_ready (c : Dev nD) (ph : Bool) (i : Fin 3) :
    (tok (payee (.inl (ph, i)) c) (.inl (ph, i)) : sProp 𝕄) = dutyTok ER (cell (peer ph i c) (.inl ph)) 0 i := rfl
omit [FloatOps F] in
theorem tok_send (c : Dev nD) (ph : Bool) (i : Fin 3) :
    (tok (payee (.inr (ph, false, i)) c) (.inr (ph, false, i)) : sProp 𝕄) = dutyTok ER (cell c (.inr (ph, false, i))) 0 0 := rfl
omit [FloatOps F] in
theorem tok_recv (c : Dev nD) (ph : Bool) (j : Fin 3) :
    (tok (payee (.inr (ph, true, j)) c) (.inr (ph, true, j)) : sProp 𝕄) = dutyTok ER (cell (peer ph j.rev c) (.inr (ph, true, j))) 0 0 := rfl
theorem rev0 : (0 : Fin 3).rev = 2 := rfl
theorem rev1 : (1 : Fin 3).rev = 1 := rfl
theorem rev2 : (2 : Fin 3).rev = 0 := rfl

/-- The tokens a device pays with. -/
def purse (c : Dev nD) : sProp 𝕄 := iprop((readyToks false c ∗ sendToks false c) ∗ readyToks true c ∗ sendToks true c)

omit [FloatOps F] in
theorem purse_intro (c : Dev nD) : (bigSep Finset.univ fun t : TIx => (tok (payee t c) t : sProp 𝕄)) ⊢ purse c := by
  rw [sum_eq, bigSep_univ_prod, bigSep_univ_prod, two_eq, two_eq, bigSep_univ_prod, bigSep_univ_prod, two_eq, two_eq]
  unfold purse readyToks sendToks
  simp only [three_eq, tok_ready, tok_send, tok_recv, rev0, rev1, rev2]
  iintro ⟨⟨⟨R0, R1, R2⟩, R0', R1', R2'⟩, ⟨⟨S0, S1, S2⟩, T0, T1, T2⟩, ⟨S0', S1', S2'⟩, T0', T1', T2'⟩
  isplitl [R0 R1 R2 S0 S1 S2 T0 T1 T2]
  · isplitl [R0 R1 R2]
    · isplitl [R0]; · iexact R0
      isplitl [R1]; · iexact R1
      iexact R2
    isplitl [S0 T2]
    · isplitl [S0]; · iexact S0
      iexact T2
    isplitl [S1 T1]
    · isplitl [S1]; · iexact S1
      iexact T1
    isplitl [S2]; · iexact S2
    iexact T0
  isplitl [R0' R1' R2']
  · isplitl [R0']; · iexact R0'
    isplitl [R1']; · iexact R1'
    iexact R2'
  isplitl [S0' T2']
  · isplitl [S0']; · iexact S0'
    iexact T2'
  isplitl [S1' T1']
  · isplitl [S1']; · iexact S1'
    iexact T1'
  isplitl [S2']; · iexact S2'
  iexact T0'

/-! ## The launch element -/

theorem cellAt_inj : Function.Injective (fun p : Dev nD × CIx => cell p.1 p.2) := by
  rintro ⟨c, k⟩ ⟨c', k'⟩ h
  obtain ⟨h1, h2⟩ := cell_inj h
  exact Prod.ext h1 h2

def allCells : Finset (GSem nD τ sig) := Finset.univ.map ⟨fun p : Dev nD × CIx => cell p.1 p.2, cellAt_inj⟩
def allToks : Finset (GSem nD τ sig × ℕ × Fin 3) := Finset.univ.map ⟨tokOf, tokOf_inj⟩

def u₀ : UU := (initOf (Pipeline.cells cfgs cellOf_inj) (Pipeline.launchToks cfgs cellOf_inj), initOf allCells allToks)

/-- What a device is dealt first: its own cells' states, positions and tokens. -/
def G (c : Dev nD) : sProp 𝕄 :=
  iprop((bigSep Finset.univ fun k : CIx => roundState ER (rd val) (cell c k) 0)
    ∗ ((bigSep Finset.univ fun k : CIx => atPos ER (cell c k) 0 ∅ 0) ∗ bigSep Finset.univ fun k : CIx => reached ER (cell c k) 0)
    ∗ bigSep Finset.univ fun t : TIx => tok c t)

omit [FloatOps F] in
theorem fund_cells : BI.own (ER (initOf allCells allToks)) ⊢ (|==> bigSep Finset.univ (G val) : sProp 𝕄) := by
  have hX (Φ : GSem nD τ sig → sProp 𝕄) : bigSep allCells Φ = bigSep Finset.univ fun c : Dev nD => bigSep Finset.univ fun k : CIx => Φ (cell c k) := by
    unfold allCells; rw [bigSep_map, bigSep_univ_prod]; rfl
  have hT : bigSep allToks (fun x => (dutyTok ER x.1 x.2.1 x.2.2 : sProp 𝕄)) = bigSep Finset.univ fun c : Dev nD => bigSep Finset.univ fun t : TIx => tok c t := by
    unfold allToks; rw [bigSep_map, bigSep_univ_prod]; rfl
  iintro HX
  imod (Rounds.fund ER (rd val) allCells allToks) $$ HX with ⟨Hst, Hr, Hat, Htok⟩
  imodintro
  ihave Hst' := (Entails.of_eq (hX fun g => roundState ER (rd val) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- What a device has after the cells of all are under the schedule. -/
def G' (c : Dev nD) : sProp 𝕄 := iprop(∃ K, records val K ∗ (bigSep Finset.univ fun k : CIx => atPos ER (cell c k) 0 ∅ 0) ∗ purse c)

omit [FloatOps F] in
/-- A device's cells are put under the schedule. -/
theorem core_alloc (c : Dev nD) :
    iprop(ownSems c ∗ unscopedSems0 c ∗ G val c)
      ⊢ |={Set.univ}=> iprop((bigSep Finset.univ fun k : CIx => iprop(∃ κ : ℕ, cellInv ER (rd val) κ (cell c k)))
          ∗ (bigSep Finset.univ fun k : CIx => reached ER (cell c k) 0)
          ∗ (bigSep Finset.univ fun k : CIx => atPos ER (cell c k) 0 ∅ 0) ∗ bigSep Finset.univ fun t : TIx => tok c t) := by
  unfold G
  iintro ⟨Hos, Hus, Hst, ⟨Hat, Hr⟩, Htok⟩
  ihave Hv := (sems_in (F := F) c) $$ [Hos Hus]
  · isplitl [Hos] <;> iassumption
  imod (show iprop((bigSep Finset.univ fun k : CIx => semVal (cell c k) 0) ∗ bigSep Finset.univ fun k : CIx => roundState ER (rd val) (cell c k) 0)
      ⊢ (|={Set.univ}=> bigSep Finset.univ fun k => iprop(∃ κ : ℕ, cellInv ER (rd val) κ (cell c k)) : sProp 𝕄) from by
        rw [← bigSep_sep']
        exact (bigSep_mono fun k _ => (Rounds.body_intro ER (rd val) (cell c k)).trans inv_alloc).trans (bigSep_fupd _ _)) $$ [Hv Hst] with Hinv
  · isplitl [Hv] <;> iassumption
  imodintro
  isplitl [Hinv]; · iexact Hinv
  isplitl [Hr]; · iexact Hr
  isplitl [Hat] <;> iassumption

omit [FloatOps F] in
theorem regroup :
    (bigSep Finset.univ fun c : Dev nD => iprop((bigSep Finset.univ fun k : CIx => iprop(∃ κ : ℕ, cellInv ER (rd val) κ (cell c k)))
          ∗ (bigSep Finset.univ fun k : CIx => reached ER (cell c k) 0)
          ∗ (bigSep Finset.univ fun k : CIx => atPos ER (cell c k) 0 ∅ 0) ∗ bigSep Finset.univ fun t : TIx => tok c t) : sProp 𝕄)
      ⊢ bigSep Finset.univ (G' val) := by
  rw [bigSep_sep', bigSep_sep', bigSep_sep', toks_dealt,
    ← bigSep_univ_prod (fun p : Dev nD × CIx => iprop(∃ κ : ℕ, cellInv ER (rd val) κ (cell p.1 p.2))),
    ← bigSep_univ_prod (fun p : Dev nD × CIx => (reached ER (cell p.1 p.2) 0 : sProp 𝕄))]
  iintro ⟨HI, #HR, Hat, Htok⟩
  ihave HK := (BI.bigSep_exists_pi Finset.univ (fun (p : Dev nD × CIx) (κ : ℕ) => (cellInv ER (rd val) κ (cell p.1 p.2) : sProp 𝕄))) $$ HI
  icases HK with ⟨%K, #HI⟩
  iapply (BI.bigSep_with_persistent (R := records val K)
    (Φ := fun c : Dev nD => iprop((bigSep Finset.univ fun k : CIx => atPos ER (cell c k) 0 ∅ 0) ∗ bigSep Finset.univ fun t : TIx => tok (payee t c) t))
    (fun c _ => show _ ⊢ G' val c from by
      unfold G'
      iintro ⟨#H, Ha, Ht⟩
      iexists K
      isplitr; · iexact H
      isplitl [Ha]; · iexact Ha
      iapply (purse_intro (F := F) c); iexact Ht))
  isplitr
  · unfold records; rw [bigSep_sep']
    isplitl; · iexact HI
    iexact HR
  · rw [bigSep_sep']
    isplitl [Hat]; · iexact Hat
    iexact Htok

omit [FloatOps F] in
/-- All devices at once. -/
theorem glob : (bigSep Finset.univ fun c => iprop(ownSems c ∗ unscopedSems0 c ∗ G val c) : sProp 𝕄)
    ⊢ |={Set.univ}=> bigSep Finset.univ (G' val) :=
  ((bigSep_mono fun c _ => core_alloc val c).trans (bigSep_fupd _ _)).trans (BI.fupd_mono (regroup val))

/-! ## The credits -/

omit [FloatOps F] in
theorem credit_cell (c : Dev nD) (k : CIx) :
    tallyOn (cell c k) (launchCredit (Pipeline.owing O₀) 0 (cell c k)) = (tallyAt (cell c k) () (owedTo k) : CellTallies nD τ sig Unit) := by
  unfold tallyAt; refine congrArg _ (Finsupp.ext fun u => ?_); cases u
  rw [Pipeline.launchCredit_owing, Finsupp.single_eq_same]
  exact sum_tally c k dues

omit [FloatOps F] in
/-- What the peers owe a device is credited to it. -/
theorem creds_intro (c : Dev nD) : (Pipeline.launchCred O₀ c : sProp 𝕄) ⊢ iprop(creds false c ∗ creds true c) := by
  have e : (Pipeline.launchCred O₀ c : sProp 𝕄) ⊢ bigSep Finset.univ fun k : CIx => cred (tallyAt (cell c k) () (owedTo k)) := by
    unfold Pipeline.launchCred
    refine (bigSep_subset (Finset.subset_univ (Finset.univ.map ⟨csem, fun _ _ h => csem_inj h⟩))).trans ?_
    rw [bigSep_map]
    exact bigSep_mono fun k _ => Entails.of_eq (congrArg (fun y => (cred y : sProp 𝕄)) (credit_cell c k))
  refine e.trans ((cells_split _).trans ?_)
  unfold ofPhase creds
  simp only [owedTo_ready, owedTo_recv]
  iintro ⟨⟨H1, -, H2⟩, H3, -, H4⟩
  isplitl [H1 H2]
  · isplitl [H1] <;> iassumption
  isplitl [H3] <;> iassumption

end Cert.NormProof
-- ==== Proof.Run.lean ====
/-
# The launch and the run

What the kernel is started from and leaves, its obligation to the pipeline, and the run of the whole program at any
float values.
-/
module

public import proofs.«01_k».proof.Proof.Deal
public import Idealize.ShloMosaic.Lib.Pipeline.CollectiveSegs

@[expose] public section

noncomputable section

namespace Cert.NormProof

open Cert.KernelIdeal Cert.KernelIdeal.Gen
open Idealize.ShloMosaic
open Idealize.ShloMosaic.TcCoe
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- The memory at launch: all counters at zero. -/
def s₀ : MemSt nD τ sig (Elt F) := ⟨m, fun _ => 0, ρ⟩

/-! ## Before and after the kernel -/

/-- What a device is started with. -/
def start (c : Dev nD) : sProp 𝕄 := iprop(G' (val m) c ∗ creds false c ∗ creds true c ∗ levAts L lv)

/-- The four scratch buffers at some contents. -/
def scratch (c : Dev nD) : sProp 𝕄 :=
  iprop((∃ X, has c (Memref.whole cc0_scratch0) X) ∗ (∃ X, has c (Memref.whole cc0_scratch1) X)
    ∗ (∃ X, has c (Memref.whole cc0_scratch2) X) ∗ (∃ X, has c (Memref.whole cc0_scratch3) X))

def before (c : Dev nD) : sProp 𝕄 := iprop(start m c ∗ scratch c)
def leaves (c : Dev nD) : sProp 𝕄 := iprop(scratch c ∗ bigSep Finset.univ fun k : CIx => semVal (cell c k) 0)

omit [FloatOps F] in
theorem has_of_points (c : Dev nD) (b : Ref sig .tc) (f : Buf (Elt F) ((c : Thread nD τ).loc b)) :
    (((c : Thread nD τ).loc b) ↦{fullShare} f : sProp 𝕄) ⊢ owns (c : Thread nD τ) (Memref.whole b) fullShare f := by
  unfold owns; simp only [Memref.view_whole, View.read_whole, View.set_whole]
  iintro H; iexists f
  isplitr; · ipureintro; rfl
  iexact H

omit [FloatOps F] in
theorem points_of_has (c : Dev nD) (b : Ref sig .tc) (X : b.ty.Contents (Elt F)) :
    (owns (c : Thread nD τ) (Memref.whole b) fullShare X : sProp 𝕄)
      ⊢ iprop(∃ f : Buf (Elt F) ((c : Thread nD τ).loc b), ((c : Thread nD τ).loc b) ↦{fullShare} f) := by
  unfold owns; simp only [Memref.view_whole, View.read_whole, View.set_whole]
  iintro ⟨%f, -, H⟩; iexists f; iexact H

omit [FloatOps F] in
theorem scratch_in (c : Dev nD) : (Pipeline.scopedRest cfg0.spec c : sProp 𝕄) ⊢ scratch c := by
  rw [scopedRest0_eq]; unfold scratch
  iintro ⟨⟨%a, Ha⟩, ⟨%b, Hb⟩, ⟨%d, Hd⟩, %e, He⟩
  isplitl [Ha]; · iexists a; iapply (has_of_points c cc0_scratch0 a); iexact Ha
  isplitl [Hb]; · iexists b; iapply (has_of_points c cc0_scratch1 b); iexact Hb
  isplitl [Hd]; · iexists d; iapply (has_of_points c cc0_scratch2 d); iexact Hd
  iexists e; iapply (has_of_points c cc0_scratch3 e); iexact He

omit [FloatOps F] in
theorem scratch_out (c : Dev nD) : scratch c ⊢ (Pipeline.scopedRest cfg0.spec c : sProp 𝕄) := by
  rw [scopedRest0_eq]; unfold scratch
  iintro ⟨⟨%a, Ha⟩, ⟨%b, Hb⟩, ⟨%d, Hd⟩, %e, He⟩
  isplitl [Ha]; · iapply (points_of_has c cc0_scratch0 a); iexact Ha
  isplitl [Hb]; · iapply (points_of_has c cc0_scratch1 b); iexact Hb
  isplitl [Hd]; · iapply (points_of_has c cc0_scratch2 d); iexact Hd
  iapply (points_of_has c cc0_scratch3 e); iexact He

/-! ## The pipeline's data -/

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xIn m c
    | ⟨1, _⟩ => gIn m c
    | ⟨2, _⟩ => outAt m c
  Φ t := match t with
    | ⟨0, _⟩ => before m c
    | ⟨_ + 1, _⟩ => leaves c
  q _ := fullShare
  owed t := match t with
    | ⟨0, _⟩ => O₀ c
    | ⟨_ + 1, _⟩ => 0

theorem share_eq (c : Dev nD) (w : Fin cfg0.W) : (dats m ρ 0 c).share w = fullShare := by unfold Dat.share; split <;> rfl

theorem before_x (c : Dev nD) (d) : (dats m ρ 0 c).before (0 : Fin 3) t0_0 d = xIn m c := by
  unfold Dat.before; rw [if_pos (fetch0_0 t0_0)]; exact fetched_x m c
theorem before_g (c : Dev nD) (d) : (dats m ρ 0 c).before (1 : Fin 3) t0_0 d = gIn m c := by
  unfold Dat.before; rw [if_pos (fetch0_1 t0_0)]; exact fetched_g m c

/-! ## The kernel's obligation -/

/-- Every cell of a device, one round on, is closed. -/
theorem close_cells (K : Dev nD × CIx → ℕ) (c : Dev nD) :
    iprop(records (val m) K ∗ seats false c 1 ∗ seats true c 1)
      ⊢ (|={Set.univ}=> bigSep Finset.univ fun k : CIx => semVal (cell c k) 0 : sProp 𝕄) := by
  refine BIBase.Entails.trans ?_ (Rounds.cells_close ER (rd (val m)) Finset.univ (fun k => cell c k) (fun k => K (c, k))
    (fun k _ => Set.mem_univ _) (fun _ _ h => h) (fun _ => 1) fun k _ => duties_later (val m) (cell c k))
  iintro ⟨#HR, Ha, Hb⟩
  iapply (BI.bigSep_with_persistent (R := records (val m) K) (Φ := fun k : CIx => (atPos ER (cell c k) 1 ∅ 0 : sProp 𝕄)) (fun k _ => by
    iintro ⟨#H, Hat⟩
    isplitr
    · ihave H' := (record_at (val m) K c k) $$ H
      icases H' with ⟨H', -⟩
      iexact H'
    iexact Hat))
  isplitr; · iexact HR
  iapply (cells_join (F := F) fun k : CIx => atPos ER (cell c k) 1 ∅ 0)
  unfold seats ofPhase
  isplitl [Ha] <;> iassumption

omit [FloatOps F] in
theorem seats_in (ph : Bool) (c : Dev nD) :
    ofPhase ph (fun k : CIx => (atPos ER (cell c k) 0 ∅ 0 : sProp 𝕄)) ⊢ seats ph c 0 := Entails.of_eq rfl

def bodyPre (c : Dev nD) : sProp 𝕄 :=
  iprop(before m c ∗ (dats m ρ 0 c).owesAt () t0_0.castSucc
    ∗ (∃ d, has c (Memref.whole cc0_stg0_0) ((dats m ρ 0 c).before (0 : Fin 3) t0_0 d))
    ∗ (∃ d, has c (Memref.whole cc0_stg1_0) ((dats m ρ 0 c).before (1 : Fin 3) t0_0 d))
    ∗ (∃ d, has c (Memref.whole cc0_stg2_0) ((dats m ρ 0 c).before (2 : Fin 3) t0_0 d)))

def bodyPost (c : Dev nD) : sProp 𝕄 :=
  iprop(leaves c ∗ (dats m ρ 0 c).owesAt () t0_0.succ
    ∗ has c (Memref.whole cc0_stg0_0) (xIn m c) ∗ has c (Memref.whole cc0_stg1_0) (gIn m c) ∗ has c (Memref.whole cc0_stg2_0) (outAt m c))

theorem kernel_run (c : Dev nD) : bodyPre m ρ c ⊢ run c (theBody (F := F)) fun _ => bodyPost m ρ c := by
  unfold bodyPre before start scratch G' purse
  simp only [before_x, before_g]
  iintro ⟨⟨⟨⟨%K, #HR, Hseat, ⟨Hr, Hs⟩, Hr', Hs'⟩, Hc, Hc', #Hlev⟩, Ha, Hb, Hd, He⟩, ⟨%W, -, HO⟩, ⟨%d0, Hx⟩, ⟨%d1, Hg⟩, %d2, Ho⟩
  ihave Hseats := (cells_split (F := F) fun k : CIx => atPos ER (cell c k) 0 ∅ 0) $$ Hseat
  icases Hseats with ⟨Ht, Ht'⟩
  iapply (body_run m K c fun _ => bodyPost m ρ c)
  isplitl
  · unfold pre kit due
    isplitr; · iexact HR
    isplitr; · iexact Hlev
    isplitl [HO]; · iexists W; iexact HO
    isplitl [Hr Hs Ht Hc]
    · isplitl [Hr]; · iexact Hr
      isplitl [Hs]; · iexact Hs
      isplitl [Ht]; · iapply (seats_in false c); iexact Ht
      iexact Hc
    isplitl [Hr' Hs' Ht' Hc']
    · isplitl [Hr']; · iexact Hr'
      isplitl [Hs']; · iexact Hs'
      isplitl [Ht']; · iapply (seats_in true c); iexact Ht'
      iexact Hc'
    isplitl [Hx]; · iexact Hx
    isplitl [Hg]; · iexact Hg
    isplitl [Ho]; · iexists _; iexact Ho
    isplitl [Ha]; · iexact Ha
    isplitl [Hb]; · iexact Hb
    isplitl [Hd]; · iexact Hd
    iexact He
  · unfold post due bodyPost leaves scratch
    iintro ⟨⟨%W', HO⟩, Ht, Ht', Hx, Hg, Ho, Hscr⟩
    imod (close_cells m K c) $$ [Ht Ht'] with Hz
    · isplitr; · iexact HR
      isplitl [Ht] <;> iassumption
    imodintro
    isplitl [Hscr Hz]
    · isplitl [Hscr] <;> iassumption
    isplitl [HO]
    · iexists W'
      isplitr; · ipureintro; exact fun _ _ => Or.inl trivial
      iexact HO
    isplitl [Hx]; · iexact Hx
    isplitl [Hg] <;> iassumption

set_option maxRecDepth 4000 in
theorem body_obligation (c : Dev nD) : BodyObligation (dats (F := F) m ρ 0 c) (defs₀ (F := F)) 𝒱₀ () Set.univ := fun t => by
  rw [fin_N0 t, bigSep_W0, bigSep_W0]
  exact kernel_run m ρ c

/-! ## The launch -/

theorem start_intro (c : Dev nD) :
    iprop(Pipeline.unscopedRestP Pipeline.Prefetch.none cfg0.spec c (fun b => (s₀ m ρ).mem ((c : Thread nD τ).loc b)) ∗ levAts L lv
        ∗ Pipeline.launchCred O₀ c ∗ prngReg c (ρ c) ∗ G' (val m) c)
      ⊢ |={Set.univ}=> iprop(start m c ∗ emp) := by
  iintro ⟨-, Hlev, Hcr, -, HG⟩
  ihave Hc := (creds_intro (F := F) c) $$ Hcr
  icases Hc with ⟨H1, H2⟩
  imodintro
  unfold start
  isplitl
  · isplitl [HG]; · iexact HG
    isplitl [H1]; · iexact H1
    isplitl [H2] <;> iassumption
  · iempintro

theorem phi_in (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = before m c from rfl]
  unfold before
  iintro ⟨Hs, -, Hr⟩
  isplitl [Hs]; · iexact Hs
  iapply (scratch_in (F := F) c); iexact Hr

theorem phi_out (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = leaves c from rfl]
  unfold leaves
  iintro ⟨Hr, Hz⟩
  ihave Hz' := (sems_out (F := F) c) $$ Hz
  icases Hz' with ⟨Hu, Ho⟩
  isplitl [Hu]; · iexact Hu
  isplitl [Ho]; · iexact Ho
  iapply (scratch_out (F := F) c); iexact Hr

theorem dues_pos : ∀ e ∈ dues, 0 < rank e.k := by decide +kernel

theorem waits (c : Dev nD) : (levAts L lv : sProp 𝕄) ⊢ Pipeline.cellsWaits cfgs (dats m ρ) () 0 c :=
  Pipeline.cellsWaits_intro cfgs (dats m ρ) () 0 c fun w s t => by
    have hw : lv ((c : Thread nD τ), .dma ((cfg0.win w).sem s)) () = 0 := by
      unfold lv; fin_cases w <;> fin_cases s <;> rfl
    rcases t with ⟨_ | _, ht⟩
    · exact mayWait_of c _ dues fun e he => hw.symm ▸ dues_pos e he
    · exact mayWait_of c _ [] fun e he => absurd he List.not_mem_nil

/-! ## The run -/

def finalA (c : Dev nD) (w : Fin cfg0.W) : Buf (Elt F) ((cfg0.win w).arr.view.loc (c : Thread nD τ)) := (dats m ρ 0 c).arrAt w cfg0.N

def Ends : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with all counters at zero, every fair run of the sixteen devices ends with every window's array at
    the contents computed and every counter at zero. -/
theorem run_main : θ_run defs (onTc (τ := τ) (main (F := F))) (s₀ m ρ) (fun r => Ends m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (val m)) (G' := G' (val m)) (u₀ := u₀)
    (hu₀ := by
      unfold u₀
      iintro Hu
      ihave H := (ownU_pair _ _) $$ Hu
      icases H with ⟨HP, HX⟩
      imod (fund_cells (val m)) $$ HX with HG
      imodintro
      isplitl [HP] <;> iassumption)
    (hglob := glob (val m))
    (hA := fun _ _ => rfl) (hpf := fun _ k => k.elim0)
    (X := start m) (Y := fun c => unscopedSems0 c) (Z := fun _ => iprop(emp))
    (hX := start_intro m ρ) (hin := phi_in m ρ) (hout := phi_out m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.NormProof
-- ==== Proof.Frames.lean ====
/-
# The frames

Each program's run, told as its frame: the arguments end as they began and every counter ends at zero. The printed
program and its idealization are one text at two readings of the floats, so one run gives both.
-/
module

public import proofs.«01_k».proof.Defs
public import proofs.«01_k».proof.Proof.Run
public import proofs.«01_k».proof.Proof.Gen.Kernel
public import proofs.«01_k».proof.Proof.Gen.ReferenceIdeal.Run
public import Idealize.ShloMosaic.Lib.Pipeline.Quiescent

@[expose] public section

noncomputable section

namespace Cert.NormProof

open Idealize.ShloMosaic
open Idealize.ShloMosaic.TcCoe
open Idealize.SL.Sem

section Args

open Cert.KernelIdeal Cert.KernelIdeal.Gen

variable {F : FTy → Type} [FloatOps F]
variable (m : (ℓ : Loc nD τ sig) → Buf (Elt F) ℓ) (ρ : Dev nD → PrngReg)

/-- The argument arrays at the end of a run. -/
theorem args_kept (r : PUnit × MemSt nD τ sig (Elt F)) (h : Ends m ρ r) (c : Dev nD) :
    r.2.mem ((c : Thread nD τ).loc main_arg0) = m ((c : Thread nD τ).loc main_arg0)
      ∧ r.2.mem ((c : Thread nD τ).loc main_arg1) = m ((c : Thread nD τ).loc main_arg1) :=
  ⟨(h c (0 : Fin 3)).trans ((dats m ρ 0 c).arrAt_in (0 : Fin 3) rfl _), (h c (1 : Fin 3)).trans ((dats m ρ 0 c).arrAt_in (1 : Fin 3) rfl _)⟩

end Args

/-- The run at any float values, told as its frame. -/
theorem frame_any {F : FTy → Type} [FloatOps F] (m : (ℓ : Loc Cert.KernelIdeal.nD Cert.KernelIdeal.τ Cert.KernelIdeal.sig) → Buf (Elt F) ℓ)
    (ρ : Dev Cert.KernelIdeal.nD → PrngReg) :
    θ_run Cert.KernelIdeal.defs (onTc (τ := Cert.KernelIdeal.τ) (Cert.KernelIdeal.main (F := F))) ⟨m, fun _ => 0, ρ⟩ fun r =>
      (∀ c : Dev Cert.KernelIdeal.nD,
        r.2.mem ((c : Thread Cert.KernelIdeal.nD Cert.KernelIdeal.τ).loc Cert.KernelIdeal.main_arg0) = m ((c : Thread Cert.KernelIdeal.nD Cert.KernelIdeal.τ).loc Cert.KernelIdeal.main_arg0)
        ∧ r.2.mem ((c : Thread Cert.KernelIdeal.nD Cert.KernelIdeal.τ).loc Cert.KernelIdeal.main_arg1) = m ((c : Thread Cert.KernelIdeal.nD Cert.KernelIdeal.τ).loc Cert.KernelIdeal.main_arg1))
      ∧ r.2.sem = fun _ => 0 :=
  (θ_run Cert.KernelIdeal.defs _ _).mono (fun r h => ⟨args_kept m ρ r h.1, h.2⟩) (run_main m ρ)

theorem frame_ideal : Cert.quiescent_KernelIdeal := fun m ρ _ => frame_any m ρ

/-- The two programs' kernels are one. -/
theorem bodies_eq {F : FTy → Type} [FloatOps F] : Cert.KernelIdeal.defs₀ (F := F) = Cert.Kernel.defs₀ (F := F) :=
  congrArg Defs.onTc (funext fun ℓ => funext fun a => match ℓ, a with
    | ⟨0, _⟩, (_, _) => rfl
    | ⟨_ + 1, h⟩, _ => absurd h (Nat.not_lt.2 (Nat.le_add_left _ _)))

theorem defs_eq {F : FTy → Type} [FloatOps F] : Cert.KernelIdeal.defs (F := F) = Cert.Kernel.defs (F := F) :=
  congrArg (Pipeline.defs Cert.KernelIdeal.pcfgs) bodies_eq

theorem frame_kernel : Cert.quiescent_Kernel := fun m ρ _ => by
  have h := frame_any (F := Bits) m ρ
  rw [defs_eq] at h
  exact h

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.NormProof
-- ==== Proof.KernelValue.lean ====
/-
# The kernel's operations, entry by entry

Each payload of the kernel, read at one index over the extended reals. The kernel turns a column of 512 numbers into
four rows of 128 and back by multiplying with a unit matrix; over the extended reals a zero times anything is zero, so
those products pick out single entries exactly.
-/
module

public import proofs.«01_k».proof.Proof.Contents
public import Idealize.ShloMosaic.Lib.Pointwise

@[expose] public section

set_option maxRecDepth 16384

noncomputable section

namespace Cert.NormProof

open Cert.KernelIdeal Cert.KernelIdeal.Gen
open Idealize.ShloMosaic
open Idealize.ShloMosaic.TcCoe

/-- The program's 128 × 128 square of row numbers equal to column numbers is the unit matrix. -/
theorem unit_at (r c : Fin 128) : k0_pay3 (F := Ideal) rowNo (ix2 r c) = if r = c then (1 : EReal) else 0 := by
  have hw : BitVec.ofNat 32 r.val = BitVec.ofNat 32 c.val ↔ r = c := by
    constructor
    · intro h
      have := congrArg BitVec.toNat h
      rw [BitVec.toNat_ofNat, BitVec.toNat_ofNat] at this
      exact Fin.ext (by omega)
    · rintro rfl; rfl
  pointwise [k0_pay3, rowNo]
  show (((BitVec.setWidth 32 (IntOp.cmpi .eq (BitVec.ofNat 32 r.val) (BitVec.ofNat 32 c.val))).toInt : ℝ) : EReal) = _
  by_cases h : r = c
  · subst h; simp [IntOp.cmpi]
  · have : ¬ BitVec.ofNat 32 r.val = BitVec.ofNat 32 c.val := fun e => h (hw.mp e)
    simp [IntOp.cmpi, h, beq_eq_false_iff_ne.mpr this]

/-- Summing a column against a column of the unit matrix picks one entry. -/
theorem pick_left (f : Fin 128 → EReal) (l : Fin 128) :
    (∑ x, f x * k0_pay3 (F := Ideal) rowNo (ix2 x l) : EReal) = f l := by
  simp only [unit_at, mul_ite, mul_one, mul_zero, Finset.sum_ite_eq', Finset.mem_univ, if_true]
theorem pick_right (f : Fin 128 → EReal) (r : Fin 128) :
    (∑ x, k0_pay3 (F := Ideal) rowNo (ix2 r x) * f x : EReal) = f r := by
  simp only [unit_at, ite_mul, one_mul, zero_mul, Finset.sum_ite_eq, Finset.mem_univ, if_true]

/-- A row's sum of squares. -/
theorem squares_at (x : Vec Ideal S512x256 .f32) (r : Fin 512) (z : Fin 1) :
    k0_pay2 x (ix2 r z) = ∑ k : Fin 256, (x (ix2 r k) * x (ix2 r k) : EReal) := by
  pointwise [k0_pay2, k0_pay1]

/-- Packing lays the column of 512 as four rows of 128. -/
theorem pack_at (v : FVec Ideal S512x1 .f32) (i : Fin 4) (l : Fin 128) :
    k0_pay4 v rowNo (ix2 i l) = v (ix2 (⟨128 * i.val + l.val, by omega⟩ : Fin 512) 0) := by
  pointwise [k0_pay4]
  simp only [pick_left (fun x => v (ix2 _ _))]
  have e : ∀ (a b : Fin 512) (c : Fin 1), a.val = b.val → v (ix2 a c) = v (ix2 b 0) := by
    intro a b c h; rw [Fin.ext h, Subsingleton.elim c 0]
  have hi := i.isLt
  split
  · exact e _ _ _ (by simp; omega)
  split
  · exact e _ _ _ (by simp; omega)
  split
  · exact e _ _ _ (by simp; omega)
  · exact e _ _ _ (by simp; omega)

/-- A block's entries, scaled row by row: row `r`'s factor is entry `(r / 128, r % 128)` of the packed factors. -/
theorem rows_scaled_at (y : FVec Ideal S512x256 .f32) (p : FVec Ideal S4x128 .f32) (h : Vec Ideal S3x4x128 .f32)
    (r : Fin 512) (k : Fin 256) :
    k0_pay14 (k0_pay3 rowNo) y (k0_pay11 p h) (k0_pay12 (k0_pay3 rowNo) p h) (k0_pay13 p h) (ix2 r k)
      = (y (ix2 r k) * k0_pay11 p h (ix2 (⟨r.val / 128, by omega⟩ : Fin 4) (⟨r.val % 128, by omega⟩ : Fin 128)) : EReal) := by
  pointwise [k0_pay14, k0_pay12, k0_pay13]
  simp only [pick_right (fun x => k0_pay11 p h (ix2 _ x))]
  refine congrArg (fun w : EReal => (y (ix2 r k) * w : EReal)) ?_
  have e : ∀ (a b : Fin 4) (c d : Fin 128), a.val = b.val → c.val = d.val → k0_pay11 p h (ix2 a c) = k0_pay11 p h (ix2 b d) := by
    intro a b c d h1 h2; rw [Fin.ext h1, Fin.ext h2]
  have hr := r.isLt
  split
  · exact e _ _ _ _ (by simp; omega) (by simp; omega)
  split
  · exact e _ _ _ _ (by simp; omega) (by simp; omega)
  split
  · exact e _ _ _ _ (by simp; omega) (by simp; omega)
  · exact e _ _ _ _ (by simp; omega) (by simp; omega)

theorem scale_at (p : FVec Ideal S4x128 .f32) (h : Vec Ideal S3x4x128 .f32) (i : Fin 4) (l : Fin 128) :
    k0_pay11 p h (ix2 i l) = Ideal.rsqrt ((p (ix2 i l) + ∑ j : Fin 3, h (ix3 j i l)) * Ideal.ofBits .f32 0x39800000#32
      + Ideal.ofBits .f32 0x3727C5AC#32 : EReal) := by
  pointwise [k0_pay11]

theorem added_at (p : FVec Ideal S4x128 .f32) (h : Vec Ideal S3x4x128 .f32) (i : Fin 4) (l : Fin 128) :
    k0_pay8 p h (ix2 i l) = (p (ix2 i l) + ∑ j : Fin 3, h (ix3 j i l) : EReal) := by
  pointwise [k0_pay8]

theorem gamma_at (x : Vec Ideal S512x256 .f32) (g : Vec Ideal S1x256 .f32) (r : Fin 512) (k : Fin 256) :
    k0_pay7 (k0_pay1 x) g (ix2 r k) = (x (ix2 r k) * g (ix2 0 k) : EReal) := by
  pointwise [k0_pay7, k0_pay1]

/-- What is heard of tile `j` is what its sender packed. -/
theorem gather_at (p : Fin 3 → FVec Ideal S4x128 .f32) (j : Fin 3) (i : Fin 4) (l : Fin 128) :
    gather (F := Ideal) (fun j => twice (p j)) (ix3 j i l) = p j (ix2 i l) := by
  have e : ∀ (j j' : Fin 3) (a b : Fin 4) (c d : Fin 128), j.val = j'.val → a.val = b.val → c.val = d.val →
      p j (ValueIdx.ix2 a c) = p j' (ix2 b d) := by
    intro j j' a b c d h0 h1 h2; rw [Fin.ext h0, Fin.ext h1, Fin.ext h2, ix2_eq_valueIdx]
  refine e _ _ _ _ _ _ ?_ ?_ ?_
  · show 0 + 1 * j.val = j.val; omega
  · show (0 + 1 * i.val) % 4 = i.val; omega
  · show 0 + 1 * l.val = l.val; omega

end Cert.NormProof
-- ==== Proof.Totals.lean ====
/-
# The device's block of the result, entry by entry

After the first exchange a device holds its plane's sums of squares, after the second those of all sixteen devices.
-/
module

public import proofs.«01_k».proof.Proof.KernelValue

@[expose] public section

noncomputable section

namespace Cert.NormProof

open Cert.KernelIdeal Cert.KernelIdeal.Gen
open Idealize.ShloMosaic
open Idealize.ShloMosaic.TcCoe

/-! ## Sums over the mesh -/

/-- A device and its three peers of a phase. -/
def hop (ph : Bool) (j : Option (Fin 3)) (c : Dev nD) : Dev nD := j.elim c fun j => peer ph j c

/-- Across the planes and then within one reaches every device exactly once. -/
theorem hops_bijective (c : Dev nD) :
    Function.Bijective fun p : Option (Fin 3) × Option (Fin 3) => hop false p.2 (hop true p.1 c) :=
  (Fintype.bijective_iff_injective_and_card _).2
    ⟨fun p q => (show ∀ c p q, hop false p.2 (hop true p.1 c) = hop false q.2 (hop true q.1 c) → p = q by decide +kernel) c p q,
      by decide⟩

theorem sum_hops {A : Type} [AddCommMonoid A] (ph : Bool) (f : Dev nD → A) (c : Dev nD) :
    ∑ j, f (hop ph j c) = f c + ∑ j, f (peer ph j c) := Fintype.sum_option _

/-- Summing within each plane and then across the planes is summing over all devices. -/
theorem sum_mesh {A : Type} [AddCommMonoid A] (f g : Dev nD → A) (hg : ∀ c, g c = f c + ∑ j, f (peer false j c)) (c : Dev nD) :
    g c + ∑ j, g (peer true j c) = ∑ d, f d := by
  rw [← sum_hops true g c, ← (hops_bijective c).sum_comp f, Fintype.sum_prod_type]
  exact Finset.sum_congr rfl fun j _ => (hg _).trans (sum_hops false f _).symm

variable (m : (ℓ : Loc nD τ sig) → Buf (Elt Ideal) ℓ)

/-! ## The rows -/

/-- Device `c`'s sum of the squares of its part of row `r`. -/
def rowSquares (c : Dev nD) (r : Fin 512) : EReal := ∑ k : Fin 256, (xIn m c (ix2 r k) * xIn m c (ix2 r k) : EReal)

/-- The same over all devices. -/
def total (r : Fin 512) : EReal := ∑ c : Dev nD, rowSquares m c r

theorem packed_at (c : Dev nD) (i : Fin 4) (l : Fin 128) :
    packed m c (ix2 i l) = rowSquares m c ⟨128 * i.val + l.val, by omega⟩ :=
  (pack_at _ i l).trans (squares_at _ _ _)

theorem plane_at (c : Dev nD) (i : Fin 4) (l : Fin 128) :
    plane m c (ix2 i l) = (packed m c (ix2 i l) + ∑ j : Fin 3, packed m (peer false j c) (ix2 i l) : EReal) :=
  (added_at _ _ i l).trans (congrArg (fun z : EReal => (packed m c (ix2 i l) + z : EReal))
    (Finset.sum_congr rfl fun j _ => gather_at (fun j => packed m (peer false j c)) j i l))

theorem scale_total (c : Dev nD) (i : Fin 4) (l : Fin 128) :
    scale m c (ix2 i l) = Ideal.rsqrt (total m ⟨128 * i.val + l.val, by omega⟩ * Ideal.ofBits .f32 0x39800000#32
      + Ideal.ofBits .f32 0x3727C5AC#32 : EReal) := by
  have h : (plane m c (ix2 i l) + ∑ j : Fin 3, heard1 m c (ix3 j i l) : EReal) = total m ⟨128 * i.val + l.val, by omega⟩ :=
    (congrArg (fun z : EReal => (plane m c (ix2 i l) + z : EReal))
      (Finset.sum_congr rfl fun j _ => gather_at (fun j => plane m (peer true j c)) j i l)).trans
    ((sum_mesh (fun d => (packed m d (ix2 i l) : EReal)) (fun d => (plane m d (ix2 i l) : EReal)) (fun d => plane_at m d i l) c).trans
      (Finset.sum_congr rfl fun d _ => packed_at m d i l))
  exact (scale_at _ _ i l).trans (by rw [h])

/-- Row `r` of the block is scaled by the reciprocal root of the row's mean square. -/
theorem outAt_at (c : Dev nD) (r : Fin 512) (k : Fin 256) :
    outAt m c (ix2 r k) = (xIn m c (ix2 r k) * gIn m c (ix2 0 k)
      * Ideal.rsqrt (total m r * Ideal.ofBits .f32 0x39800000#32 + Ideal.ofBits .f32 0x3727C5AC#32) : EReal) := by
  have hr : (⟨128 * (r.val / 128) + r.val % 128, by omega⟩ : Fin 512) = r := Fin.ext (Nat.div_add_mod r.val 128)
  refine (rows_scaled_at _ _ _ r k).trans ?_
  exact congrArg₂ (fun a b : EReal => a * b) (gamma_at _ _ r k) ((scale_total m c _ _).trans (by rw [hr]))

end Cert.NormProof
-- ==== Proof.RootLaw.lean ====
/-
# Dividing by a root

The reference divides by the root of `t / 4096 + ε`, the kernel multiplies by the reciprocal root of `t · 2⁻¹² + ε`. Over
the extended reals, for a sum of squares `t`, these are one: the radicand is positive, and where it is `⊤` both give `0`.
-/
module

public import Idealize.ShloMosaic.PureOps.Ideal
public import Idealize.ShloMosaic.Lib.IdealHost

@[expose] public section

noncomputable section

namespace Cert.NormProof

open Idealize.ShloMosaic

theorem word_4096 : Ideal.ofBits .f32 0x45800000#32 = ((4096 : ℝ) : EReal) := by
  simp [Ideal.ofBits, Ideal.ieee, -EReal.coe_mul]; norm_num

theorem word_inv : Ideal.ofBits .f32 0x39800000#32 = ((1 / 4096 : ℝ) : EReal) := by
  simp [Ideal.ofBits, Ideal.ieee, -EReal.coe_mul]; norm_num

theorem word_eps : ∃ e : ℝ, 0 < e ∧ Ideal.ofBits .f32 0x3727C5AC#32 = (e : EReal) :=
  ⟨10995116 * 2 ^ (-40 : Int), by positivity, by simp [Ideal.ofBits, Ideal.ieee, -EReal.coe_mul]⟩

/-- Squares are not negative. -/
theorem square_nonneg (x : EReal) : 0 ≤ x * x := by
  induction x with
  | bot => simp
  | top => simp
  | coe r => exact_mod_cast mul_self_nonneg r

/-- For a positive radicand, dividing by its root is multiplying by its reciprocal root. -/
theorem div_sqrt (y v : EReal) (hv : 0 < v) : Ideal.div y (Ideal.sqrt v) = y * Ideal.rsqrt v := by
  induction v with
  | bot => exact absurd hv (by simp)
  | top => simp [Ideal.div]
  | coe r =>
    have hr : 0 < r := by exact_mod_cast hv
    have h0 : (Real.sqrt r : EReal) ≠ 0 := by exact_mod_cast (Real.sqrt_pos.2 hr).ne'
    have hs : Ideal.sqrt (r : EReal) = (Real.sqrt r : EReal) := if_neg hr.le.not_gt
    have hq : Ideal.rsqrt (r : EReal) = ((Real.sqrt r)⁻¹ : ℝ) := (if_neg hr.le.not_gt).trans (if_neg hr.ne')
    rw [hs, hq, Ideal.div, if_neg h0, EReal.coe_inv]

theorem norm_law (y t : EReal) (ht : 0 ≤ t) :
    Ideal.div y (Ideal.sqrt (Ideal.div t (Ideal.ofBits .f32 0x45800000#32) + Ideal.ofBits .f32 0x3727C5AC#32))
      = y * Ideal.rsqrt (t * Ideal.ofBits .f32 0x39800000#32 + Ideal.ofBits .f32 0x3727C5AC#32) := by
  obtain ⟨e, he, hw⟩ := word_eps
  rw [word_4096, word_inv, hw, Ideal.div_coe (by norm_num : (4096 : ℝ) ≠ 0)]
  refine div_sqrt _ _ (lt_of_lt_of_le (by exact_mod_cast he : (0 : EReal) < (e : EReal)) ?_)
  exact le_add_of_nonneg_left (mul_nonneg ht (by exact_mod_cast (by norm_num : (0 : ℝ) ≤ 1 / 4096)))

end Cert.NormProof
-- ==== Proof.Whole.lean ====
/-
# The whole result

The reference's result at one entry, and that each device's block of it is what the device computes.
-/
module

public import proofs.«01_k».proof.Proof.Totals
public import proofs.«01_k».proof.Proof.RootLaw
public import proofs.«01_k».proof.Proof.Gen.ReferenceIdeal.Run
public import Idealize.ShloMosaic.Lib.Layout

@[expose] public section

set_option maxRecDepth 16384

noncomputable section

namespace Cert.NormProof

open Idealize.ShloMosaic
open Idealize.ShloMosaic.TcCoe

section Reference

open Cert.ReferenceIdeal Cert.ReferenceIdeal.Gen

/-- What the reference computes of the whole `x` and `gamma`. -/
def wholeOut (X : Vec Ideal S512x4096 .f32) (γ : Vec Ideal S1x4096 .f32) : FVec Ideal S512x4096 .f32 :=
  Host.divf (mulf (broadcastInDim S512x4096 ![0, 1] bcast_S1x4096_S512x4096_0_1 γ) X)
    (broadcastInDim S512x4096 ![0, 1] bcast_S512x1_S512x4096_0_1
      (Host.sqrt (addf
        (Host.divf
          (broadcastInDim S512x1 ![0] bcast_S512_S512x1_0
            (Host.reduceAdd (mulf X X) (constant S_ .f32 0x00000000#32) reducesTo_S512x4096_S512_d1 h_S_))
          (broadcastInDim S512x1 ![] bcast_S_S512x1 (constant S_ .f32 0x45800000#32)))
        (broadcastInDim S512x1 ![] bcast_S_S512x1 (constant S_ .f32 0x3727C5AC#32)))))

theorem wholeOut_at (X : Vec Ideal S512x4096 .f32) (γ : Vec Ideal S1x4096 .f32) (r : Fin 512) (k : Fin 4096) :
    wholeOut X γ (ix2 r k) = Ideal.div (γ (ix2 0 k) * X (ix2 r k) : EReal)
      (Ideal.sqrt (Ideal.div (∑ n : Fin 4096, (X (ix2 r n) * X (ix2 r n) : EReal)) (Ideal.ofBits .f32 0x45800000#32)
        + Ideal.ofBits .f32 0x3727C5AC#32 : EReal)) := by
  pointwise [wholeOut]

end Reference

open Cert.KernelIdeal Cert.KernelIdeal.Gen

/-- Column `k` of device `c`'s block, in the whole. -/
def colOf (c : Dev nD) (k : Fin 256) : Fin 4096 := ⟨c.val * 256 + k.val, by have h : c.val < 16 := c.isLt; omega⟩

/-- The blocks' columns are all the columns. -/
theorem sum_cols (f : Fin 4096 → EReal) : ∑ c : Dev nD, ∑ k : Fin 256, f (colOf c k) = ∑ n, f n := by
  rw [← (finProdFinEquiv (m := 16) (n := 256)).sum_comp f, Fintype.sum_prod_type]
  refine Finset.sum_congr rfl fun c _ => Finset.sum_congr rfl fun k _ => congrArg f (Fin.ext ?_)
  show c.val * 256 + k.val = k.val + 256 * c.val
  omega

variable (m : (ℓ : Loc nD τ sig) → Buf (Elt Ideal) ℓ)
  (X : Vec Ideal Cert.ReferenceIdeal.S512x4096 .f32) (γ : Vec Ideal Cert.ReferenceIdeal.S1x4096 .f32)

/-- The devices hold their blocks of `X` and `γ`. -/
structure Dealt : Prop where
  x : ∀ c, xIn m c = Layout.block ⟨2, ![512, 256]⟩ ⟨2, ![512, 4096]⟩ 1 16 c X
  g : ∀ c, gIn m c = Layout.block ⟨2, ![1, 256]⟩ ⟨2, ![1, 4096]⟩ 1 16 c γ

/-- A block's entry in the whole. -/
theorem block_at {α : Type} {h : Nat} (V : (⟨2, ![h, 4096]⟩ : Shape).Idx → α) (ht : Layout.Tiles ⟨2, ![h, 256]⟩ ⟨2, ![h, 4096]⟩ 1 16)
    (c : Dev nD) (r : Fin h) (k : Fin 256) :
    Layout.block ⟨2, ![h, 256]⟩ ⟨2, ![h, 4096]⟩ 1 16 c V ht (ix2 r k) = V (ix2 r (colOf c k)) :=
  congrArg V (funext fun a => match a with | ⟨0, _⟩ => rfl | ⟨1, _⟩ => rfl)

variable {m X γ}

theorem Dealt.x_at (hd : Dealt m X γ) (c : Dev nD) (r : Fin 512) (k : Fin 256) : xIn m c (ix2 r k) = X (ix2 r (colOf c k)) :=
  (congrFun (hd.x c) _).trans (block_at X _ c r k)
theorem Dealt.g_at (hd : Dealt m X γ) (c : Dev nD) (k : Fin 256) : gIn m c (ix2 0 k) = γ (ix2 0 (colOf c k)) :=
  (congrFun (hd.g c) _).trans (block_at γ _ c 0 k)

/-- The devices' sums of squares add up to the row's. -/
theorem Dealt.total_eq (hd : Dealt m X γ) (r : Fin 512) : total m r = ∑ n : Fin 4096, (X (ix2 r n) * X (ix2 r n) : EReal) :=
  (Finset.sum_congr rfl fun c _ => Finset.sum_congr rfl fun k _ => by rw [hd.x_at c r k]).trans
    (sum_cols fun n => (X (ix2 r n) * X (ix2 r n) : EReal))

/-- Each device computes its block of the reference's result. -/
theorem Dealt.out_eq (hd : Dealt m X γ) (c : Dev nD) :
    outAt m c = Layout.block ⟨2, ![512, 256]⟩ ⟨2, ![512, 4096]⟩ 1 16 c (wholeOut X γ) := by
  funext j
  obtain ⟨r, k, rfl⟩ : ∃ (r : Fin 512) (k : Fin 256), j = ix2 r k := ⟨j 0, j 1, eq_ix2 j⟩
  refine (outAt_at m c r k).trans (Eq.trans ?_ ((block_at (wholeOut X γ) _ c r k).trans (wholeOut_at X γ r _)).symm)
  rw [norm_law _ _ (Finset.sum_nonneg fun n _ => square_nonneg _), hd.x_at, hd.g_at, hd.total_eq]
  exact congrArg (fun z : EReal => (z * _ : EReal)) (mul_comm _ _)

end Cert.NormProof
-- ==== Proof.Algebraic.lean ====
/-
# The value claim

The run of the sixteen devices leaves each its block of what the reference computes.
-/
module

public import proofs.«01_k».proof.Proof.Frames
public import proofs.«01_k».proof.Proof.Whole
public import Idealize.ShloMosaic.Lib.Pipeline.ValueKit.Geometry

@[expose] public section

noncomputable section

namespace Cert.NormProof

open Idealize.ShloMosaic
open Idealize.ShloMosaic.TcCoe
open Idealize.SL.Sem

section Result

open Cert.KernelIdeal Cert.KernelIdeal.Gen

/-- The result array after the run is what the kernel left in its staging block. -/
theorem final_out {F : FTy → Type} [FloatOps F] (m : (ℓ : Loc nD τ sig) → Buf (Elt F) ℓ) (ρ : Dev nD → PrngReg) (c : Dev nD) :
    finalA m ρ c (2 : Fin 3) = outAt m c :=
  (dats m ρ 0 c).arrAt_eq_of_after_last (2 : Fin 3) t0_0 (by decide +kernel) _ fun _ => rfl

end Result

theorem algebraic : Cert.algebraic_KernelIdeal_ReferenceIdeal := fun m ρ m' ρ' _ hm =>
  have hd : Dealt m _ _ := ⟨fun c => (hm c).1, fun c => (hm c).2⟩
  ⟨wholeOut (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono
      (fun r h c => ⟨((h.1 c (2 : Fin 3)).trans (final_out m ρ c)).trans (hd.out_eq c), args_kept m ρ r h.1 c⟩)
      (run_main (F := Ideal) m ρ),
    (θ_run Cert.ReferenceIdeal.defs _ _).mono (fun r h => h 0) (Cert.ReferenceIdeal.Value.run (F := Ideal) m' ρ')⟩

end Cert.NormProof
-- ==== Proof.lean ====
/-
# The claims

Each proved in a module of its own.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.Algebraic

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts,
  Cert.NormProof.frame_kernel, Cert.NormProof.frame_ideal, Cert.NormProof.frame_reference, trivial, Cert.NormProof.algebraic⟩

end Cert.Proof

end
